-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x12x1024x32 : Shape := ⟨4, ![16, 12, 1024, 32]⟩
abbrev S1024x1024 : Shape := ⟨2, ![1024, 1024]⟩
abbrev S12x16x1024x64 : Shape := ⟨4, ![12, 16, 1024, 64]⟩
abbrev S12x4x3x32x64 : Shape := ⟨5, ![12, 4, 3, 32, 64]⟩
abbrev S12x4x64 : Shape := ⟨3, ![12, 4, 64]⟩
abbrev S12x4x3x64x64 : Shape := ⟨5, ![12, 4, 3, 64, 64]⟩
abbrev S12x3x1x64 : Shape := ⟨4, ![12, 3, 1, 64]⟩
abbrev S12x4x1x64 : Shape := ⟨4, ![12, 4, 1, 64]⟩
abbrev S12x16x32x1024 : Shape := ⟨4, ![12, 16, 32, 1024]⟩
abbrev S12x3x4x64x32 : Shape := ⟨5, ![12, 3, 4, 64, 32]⟩
abbrev S12x3x256x32 : Shape := ⟨4, ![12, 3, 256, 32]⟩
abbrev S12x3x4x64x64 : Shape := ⟨5, ![12, 3, 4, 64, 64]⟩
abbrev S12x3x256x64 : Shape := ⟨4, ![12, 3, 256, 64]⟩
abbrev S12x256x1 : Shape := ⟨3, ![12, 256, 1]⟩
abbrev S12x3x64 : Shape := ⟨3, ![12, 3, 64]⟩
abbrev S12x3x64x1 : Shape := ⟨4, ![12, 3, 64, 1]⟩
abbrev S1x16x1024x64 : Shape := ⟨4, ![1, 16, 1024, 64]⟩
abbrev S16x1024x64 : Shape := ⟨3, ![16, 1024, 64]⟩
abbrev S16x64x1024 : Shape := ⟨3, ![16, 64, 1024]⟩
abbrev S_ : Shape := ⟨0, ![]⟩
abbrev S8x128 : Shape := ⟨2, ![8, 128]⟩
abbrev S16x12x64x1024 : Shape := ⟨4, ![16, 12, 64, 1024]⟩
abbrev S1x16x32x1024 : Shape := ⟨4, ![1, 16, 32, 1024]⟩
abbrev S1x3x256x32 : Shape := ⟨4, ![1, 3, 256, 32]⟩
abbrev S1x3x256x64 : Shape := ⟨4, ![1, 3, 256, 64]⟩
abbrev S1x256x1 : Shape := ⟨3, ![1, 256, 1]⟩
abbrev S1x3x64x1 : Shape := ⟨4, ![1, 3, 64, 1]⟩
abbrev S16x1x64x1024 : Shape := ⟨4, ![16, 1, 64, 1024]⟩
abbrev S1x1 : Shape := ⟨2, ![1, 1]⟩
abbrev S16x32x1024 : Shape := ⟨3, ![16, 32, 1024]⟩
abbrev S512x1024 : Shape := ⟨2, ![512, 1024]⟩
abbrev S256x1 : Shape := ⟨2, ![256, 1]⟩
abbrev S1x1x64x1 : Shape := ⟨4, ![1, 1, 64, 1]⟩
abbrev S64x1 : Shape := ⟨2, ![64, 1]⟩
abbrev S1x64x1 : Shape := ⟨3, ![1, 64, 1]⟩
abbrev S1x1x256x32 : Shape := ⟨4, ![1, 1, 256, 32]⟩
abbrev S256x32 : Shape := ⟨2, ![256, 32]⟩
abbrev S1x32x1024 : Shape := ⟨3, ![1, 32, 1024]⟩
abbrev S32x1024 : Shape := ⟨2, ![32, 1024]⟩
abbrev S256x1024 : Shape := ⟨2, ![256, 1024]⟩
abbrev S1x1x256x64 : Shape := ⟨4, ![1, 1, 256, 64]⟩
abbrev S256x64 : Shape := ⟨2, ![256, 64]⟩
abbrev S1x64x1024 : Shape := ⟨3, ![1, 64, 1024]⟩
abbrev S64x1024 : Shape := ⟨2, ![64, 1024]⟩
abbrev S1x1x64x1024 : Shape := ⟨4, ![1, 1, 64, 1024]⟩
abbrev S16x12x1024x64 : Shape := ⟨4, ![16, 12, 1024, 64]⟩

abbrev nBuf : Space → Nat
  | .hbm => 32
  | .vmem => 22
  | .smem => 0
  | _ => 0

abbrev bufTy : (tb : Table) → Fin (tcTables nBuf tb) → BufTy
  | .hbm, ⟨0, _⟩ => ⟨S16x12x1024x32, .f32⟩
  | .hbm, ⟨1, _⟩ => ⟨S1024x1024, .f32⟩
  | .hbm, ⟨2, _⟩ => ⟨S12x16x1024x64, .f32⟩
  | .hbm, ⟨3, _⟩ => ⟨S12x16x1024x64, .f32⟩
  | .hbm, ⟨4, _⟩ => ⟨S12x4x3x32x64, .f32⟩
  | .hbm, ⟨5, _⟩ => ⟨S12x4x64, .f32⟩
  | .hbm, ⟨6, _⟩ => ⟨S12x4x3x64x64, .f32⟩
  | .hbm, ⟨7, _⟩ => ⟨S12x4x64, .f32⟩
  | .hbm, ⟨8, _⟩ => ⟨S12x3x1x64, .f32⟩
  | .hbm, ⟨9, _⟩ => ⟨S12x4x1x64, .f32⟩
  | .hbm, ⟨10, _⟩ => ⟨S1024x1024, .f32⟩
  | .hbm, ⟨11, _⟩ => ⟨S12x16x32x1024, .f32⟩
  | .hbm, ⟨12, _⟩ => ⟨S12x3x4x64x32, .f32⟩
  | .hbm, ⟨13, _⟩ => ⟨S12x3x256x32, .f32⟩
  | .hbm, ⟨14, _⟩ => ⟨S12x3x4x64x64, .f32⟩
  | .hbm, ⟨15, _⟩ => ⟨S12x3x256x64, .f32⟩
  | .hbm, ⟨16, _⟩ => ⟨S12x256x1, .f32⟩
  | .hbm, ⟨17, _⟩ => ⟨S12x256x1, .f32⟩
  | .hbm, ⟨18, _⟩ => ⟨S12x4x64, .f32⟩
  | .hbm, ⟨19, _⟩ => ⟨S12x256x1, .f32⟩
  | .hbm, ⟨20, _⟩ => ⟨S12x3x64, .f32⟩
  | .hbm, ⟨21, _⟩ => ⟨S12x3x64x1, .f32⟩
  | .hbm, ⟨22, _⟩ => ⟨S1x16x1024x64, .f32⟩
  | .hbm, ⟨23, _⟩ => ⟨S16x1024x64, .f32⟩
  | .hbm, ⟨24, _⟩ => ⟨S16x64x1024, .f32⟩
  | .hbm, ⟨25, _⟩ => ⟨S1x16x1024x64, .f32⟩
  | .hbm, ⟨26, _⟩ => ⟨S16x1024x64, .f32⟩
  | .hbm, ⟨27, _⟩ => ⟨S16x64x1024, .f32⟩
  | .hbm, ⟨28, _⟩ => ⟨S_, .f32⟩
  | .hbm, ⟨29, _⟩ => ⟨S8x128, .f32⟩
  | .hbm, ⟨30, _⟩ => ⟨S16x12x64x1024, .f32⟩
  | .hbm, ⟨31, _⟩ => ⟨S16x12x1024x64, .f32⟩
  | .local _ .vmem, ⟨0, _⟩ => ⟨S1x16x32x1024, .f32⟩
  | .local _ .vmem, ⟨1, _⟩ => ⟨S1x16x32x1024, .f32⟩
  | .local _ .vmem, ⟨2, _⟩ => ⟨S1024x1024, .f32⟩
  | .local _ .vmem, ⟨3, _⟩ => ⟨S1x3x256x32, .f32⟩
  | .local _ .vmem, ⟨4, _⟩ => ⟨S1x3x256x32, .f32⟩
  | .local _ .vmem, ⟨5, _⟩ => ⟨S1x3x256x64, .f32⟩
  | .local _ .vmem, ⟨6, _⟩ => ⟨S1x3x256x64, .f32⟩
  | .local _ .vmem, ⟨7, _⟩ => ⟨S1x256x1, .f32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S1x3x64x1, .f32⟩
  | .local _ .vmem, ⟨14, _⟩ => ⟨S1x3x64x1, .f32⟩
  | .local _ .vmem, ⟨15, _⟩ => ⟨S8x128, .f32⟩
  | .local _ .vmem, ⟨16, _⟩ => ⟨S16x64x1024, .f32⟩
  | .local _ .vmem, ⟨17, _⟩ => ⟨S16x64x1024, .f32⟩
  | .local _ .vmem, ⟨18, _⟩ => ⟨S16x1x64x1024, .f32⟩
  | .local _ .vmem, ⟨19, _⟩ => ⟨S16x1x64x1024, .f32⟩
  | .local _ .vmem, ⟨20, _⟩ => ⟨S16x64x1024, .f32⟩
  | .local _ .vmem, ⟨21, _⟩ => ⟨S16x64x1024, .f32⟩
  | _, _ => ⟨S16x12x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![12], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x12x1024x32 : Shape := ⟨4, ![16, 12, 1024, 32]⟩
abbrev S1024x1024 : Shape := ⟨2, ![1024, 1024]⟩
abbrev S12x16x1024x64 : Shape := ⟨4, ![12, 16, 1024, 64]⟩
abbrev S12x4x3x32x64 : Shape := ⟨5, ![12, 4, 3, 32, 64]⟩
abbrev S12x4x64 : Shape := ⟨3, ![12, 4, 64]⟩
abbrev S12x4x3x64x64 : Shape := ⟨5, ![12, 4, 3, 64, 64]⟩
abbrev S12x3x1x64 : Shape := ⟨4, ![12, 3, 1, 64]⟩
abbrev S12x4x1x64 : Shape := ⟨4, ![12, 4, 1, 64]⟩
abbrev S12x16x1024x32 : Shape := ⟨4, ![12, 16, 1024, 32]⟩
abbrev S1x16x1024x64 : Shape := ⟨4, ![1, 16, 1024, 64]⟩
abbrev S16x1024x64 : Shape := ⟨3, ![16, 1024, 64]⟩
abbrev S_ : Shape := ⟨0, ![]⟩
abbrev S1x16x1024x32 : Shape := ⟨4, ![1, 16, 1024, 32]⟩
abbrev S16x1024x32 : Shape := ⟨3, ![16, 1024, 32]⟩
abbrev S1x4x3x32x64 : Shape := ⟨5, ![1, 4, 3, 32, 64]⟩
abbrev S4x3x32x64 : Shape := ⟨4, ![4, 3, 32, 64]⟩
abbrev S1x4x64 : Shape := ⟨3, ![1, 4, 64]⟩
abbrev S4x64 : Shape := ⟨2, ![4, 64]⟩
abbrev S1x4x3x64x64 : Shape := ⟨5, ![1, 4, 3, 64, 64]⟩
abbrev S4x3x64x64 : Shape := ⟨4, ![4, 3, 64, 64]⟩
abbrev S1x3x1x64 : Shape := ⟨4, ![1, 3, 1, 64]⟩
abbrev S3x1x64 : Shape := ⟨3, ![3, 1, 64]⟩
abbrev S1x4x1x64 : Shape := ⟨4, ![1, 4, 1, 64]⟩
abbrev S4x1x64 : Shape := ⟨3, ![4, 1, 64]⟩
abbrev S1x3x32x64 : Shape := ⟨4, ![1, 3, 32, 64]⟩
abbrev S3x32x64 : Shape := ⟨3, ![3, 32, 64]⟩
abbrev S1x64 : Shape := ⟨2, ![1, 64]⟩
abbrev S64 : Shape := ⟨1, ![64]⟩
abbrev S1x32x64 : Shape := ⟨3, ![1, 32, 64]⟩
abbrev S32x64 : Shape := ⟨2, ![32, 64]⟩
abbrev S16x32x1024 : Shape := ⟨3, ![16, 32, 1024]⟩
abbrev S1x1x64 : Shape := ⟨3, ![1, 1, 64]⟩
abbrev S1x3x64x64 : Shape := ⟨4, ![1, 3, 64, 64]⟩
abbrev S3x64x64 : Shape := ⟨3, ![3, 64, 64]⟩
abbrev S1x64x64 : Shape := ⟨3, ![1, 64, 64]⟩
abbrev S64x64 : Shape := ⟨2, ![64, 64]⟩
abbrev S16x64x1024 : Shape := ⟨3, ![16, 64, 1024]⟩
abbrev S16x12x1024x64 : Shape := ⟨4, ![16, 12, 1024, 64]⟩

abbrev nBuf : Space → Nat
  | .hbm => 355
  | .vmem => 0
  | .smem => 0
  | _ => 0

abbrev hbmTy0_0 (i : Nat) : BufTy := match i % 128 with
  | 0 => ⟨S16x12x1024x32, .f32⟩
  | 1 => ⟨S1024x1024, .f32⟩
  | 2 => ⟨S12x16x1024x64, .f32⟩
  | 3 => ⟨S12x16x1024x64, .f32⟩
  | 4 => ⟨S12x4x3x32x64, .f32⟩
  | 5 => ⟨S12x4x64, .f32⟩
  | 6 => ⟨S12x4x3x64x64, .f32⟩
  | 7 => ⟨S12x4x64, .f32⟩
  | 8 => ⟨S12x3x1x64, .f32⟩
  | 9 => ⟨S12x4x1x64, .f32⟩
  | 10 => ⟨S12x16x1024x32, .f32⟩
  | 11 => ⟨S1x16x1024x64, .f32⟩
  | 12 => ⟨S16x1024x64, .f32⟩
  | 13 => ⟨S1x16x1024x64, .f32⟩
  | 14 => ⟨S16x1024x64, .f32⟩
  | 15 => ⟨S_, .f32⟩
  | 16 => ⟨S12x16x1024x64, .f32⟩
  | 17 => ⟨S_, .i32⟩
  | 18 => ⟨S12x16x1024x32, .f32⟩
  | 19 => ⟨S12x4x3x32x64, .f32⟩
  | 20 => ⟨S12x4x64, .f32⟩
  | 21 => ⟨S12x4x3x64x64, .f32⟩
  | 22 => ⟨S12x4x64, .f32⟩
  | 23 => ⟨S12x3x1x64, .f32⟩
  | 24 => ⟨S12x4x1x64, .f32⟩
  | 25 => ⟨S1024x1024, .f32⟩
  | 26 => ⟨S_, .i32⟩
  | 27 => ⟨S16x1024x64, .f32⟩
  | 28 => ⟨S16x1024x64, .f32⟩
  | 29 => ⟨S12x16x1024x64, .f32⟩
  | 30 => ⟨S_, .i32⟩
  | 31 => ⟨S_, .i1⟩
  | 32 => ⟨S_, .i32⟩
  | 33 => ⟨S_, .i32⟩
  | 34 => ⟨S_, .i32⟩
  | 35 => ⟨S1x16x1024x32, .f32⟩
  | 36 => ⟨S16x1024x32, .f32⟩
  | 37 => ⟨S_, .i32⟩
  | 38 => ⟨S_, .i32⟩
  | 39 => ⟨S_, .i32⟩
  | 40 => ⟨S_, .i32⟩
  | 41 => ⟨S1x4x3x32x64, .f32⟩
  | 42 => ⟨S4x3x32x64, .f32⟩
  | 43 => ⟨S_, .i32⟩
  | 44 => ⟨S_, .i32⟩
  | 45 => ⟨S1x4x64, .f32⟩
  | 46 => ⟨S4x64, .f32⟩
  | 47 => ⟨S_, .i32⟩
  | 48 => ⟨S_, .i32⟩
  | 49 => ⟨S_, .i32⟩
  | 50 => ⟨S_, .i32⟩
  | 51 => ⟨S1x4x3x64x64, .f32⟩
  | 52 => ⟨S4x3x64x64, .f32⟩
  | 53 => ⟨S_, .i32⟩
  | 54 => ⟨S_, .i32⟩
  | 55 => ⟨S1x4x64, .f32⟩
  | 56 => ⟨S4x64, .f32⟩
  | 57 => ⟨S_, .i32⟩
  | 58 => ⟨S_, .i32⟩
  | 59 => ⟨S_, .i32⟩
  | 60 => ⟨S1x3x1x64, .f32⟩
  | 61 => ⟨S3x1x64, .f32⟩
  | 62 => ⟨S_, .i32⟩
  | 63 => ⟨S_, .i32⟩
  | 64 => ⟨S_, .i32⟩
  | 65 => ⟨S1x4x1x64, .f32⟩
  | 66 => ⟨S4x1x64, .f32⟩
  | 67 => ⟨S1x3x32x64, .f32⟩
  | 68 => ⟨S3x32x64, .f32⟩
  | 69 => ⟨S1x64, .f32⟩
  | 70 => ⟨S64, .f32⟩
  | 71 => ⟨S1x32x64, .f32⟩
  | 72 => ⟨S32x64, .f32⟩
  | 73 => ⟨S16x1024x64, .f32⟩
  | 74 => ⟨S16x32x1024, .f32⟩
  | 75 => ⟨S16x1024x32, .f32⟩
  | 76 => ⟨S1x32x64, .f32⟩
  | 77 => ⟨S32x64, .f32⟩
  | 78 => ⟨S16x1024x64, .f32⟩
  | 79 => ⟨S16x1024x64, .f32⟩
  | 80 => ⟨S16x32x1024, .f32⟩
  | 81 => ⟨S16x1024x32, .f32⟩
  | 82 => ⟨S_, .f32⟩
  | 83 => ⟨S16x1024x32, .f32⟩
  | 84 => ⟨S16x1024x32, .f32⟩
  | 85 => ⟨S16x1024x32, .f32⟩
  | 86 => ⟨S1x32x64, .f32⟩
  | 87 => ⟨S32x64, .f32⟩
  | 88 => ⟨S16x1024x64, .f32⟩
  | 89 => ⟨S16x1024x64, .f32⟩
  | 90 => ⟨S1x1x64, .f32⟩
  | 91 => ⟨S16x1024x64, .f32⟩
  | 92 => ⟨S16x1024x64, .f32⟩
  | 93 => ⟨S1x3x64x64, .f32⟩
  | 94 => ⟨S3x64x64, .f32⟩
  | 95 => ⟨S1x64, .f32⟩
  | 96 => ⟨S64, .f32⟩
  | 97 => ⟨S1x64x64, .f32⟩
  | 98 => ⟨S64x64, .f32⟩
  | 99 => ⟨S16x1024x64, .f32⟩
  | 100 => ⟨S16x64x1024, .f32⟩
  | 101 => ⟨S16x1024x64, .f32⟩
  | 102 => ⟨S1x64x64, .f32⟩
  | 103 => ⟨S64x64, .f32⟩
  | 104 => ⟨S16x1024x64, .f32⟩
  | 105 => ⟨S16x1024x64, .f32⟩
  | 106 => ⟨S16x64x1024, .f32⟩
  | 107 => ⟨S16x1024x64, .f32⟩
  | 108 => ⟨S_, .f32⟩
  | 109 => ⟨S16x1024x64, .f32⟩
  | 110 => ⟨S16x1024x64, .f32⟩
  | 111 => ⟨S16x1024x64, .f32⟩
  | 112 => ⟨S1x64x64, .f32⟩
  | 113 => ⟨S64x64, .f32⟩
  | 114 => ⟨S16x1024x64, .f32⟩
  | 115 => ⟨S16x1024x64, .f32⟩
  | 116 => ⟨S1x1x64, .f32⟩
  | 117 => ⟨S16x1024x64, .f32⟩
  | 118 => ⟨S16x1024x64, .f32⟩
  | 119 => ⟨S16x1024x64, .f32⟩
  | 120 => ⟨S1x1x64, .f32⟩
  | 121 => ⟨S1x64, .f32⟩
  | 122 => ⟨S1x1x64, .f32⟩
  | 123 => ⟨S16x1024x64, .f32⟩
  | 124 => ⟨S16x1024x64, .f32⟩
  | 125 => ⟨S16x1024x64, .f32⟩
  | 126 => ⟨S1x1x64, .f32⟩
  | 127 => ⟨S1x64, .f32⟩
  | _ => ⟨S16x12x1024x32, .f32⟩

abbrev hbmTy0_1 (i : Nat) : BufTy := match i % 128 with
  | 0 => ⟨S1x1x64, .f32⟩
  | 1 => ⟨S16x1024x64, .f32⟩
  | 2 => ⟨S16x1024x64, .f32⟩
  | 3 => ⟨S16x1024x64, .f32⟩
  | 4 => ⟨S16x1024x64, .f32⟩
  | 5 => ⟨S_, .f32⟩
  | 6 => ⟨S16x1024x64, .f32⟩
  | 7 => ⟨S16x1024x64, .f32⟩
  | 8 => ⟨S_, .f32⟩
  | 9 => ⟨S16x1024x64, .f32⟩
  | 10 => ⟨S16x1024x64, .f32⟩
  | 11 => ⟨S1x3x32x64, .f32⟩
  | 12 => ⟨S3x32x64, .f32⟩
  | 13 => ⟨S1x64, .f32⟩
  | 14 => ⟨S64, .f32⟩
  | 15 => ⟨S1x32x64, .f32⟩
  | 16 => ⟨S32x64, .f32⟩
  | 17 => ⟨S16x1024x64, .f32⟩
  | 18 => ⟨S16x32x1024, .f32⟩
  | 19 => ⟨S16x1024x32, .f32⟩
  | 20 => ⟨S1x32x64, .f32⟩
  | 21 => ⟨S32x64, .f32⟩
  | 22 => ⟨S16x1024x64, .f32⟩
  | 23 => ⟨S16x1024x64, .f32⟩
  | 24 => ⟨S16x32x1024, .f32⟩
  | 25 => ⟨S16x1024x32, .f32⟩
  | 26 => ⟨S_, .f32⟩
  | 27 => ⟨S16x1024x32, .f32⟩
  | 28 => ⟨S16x1024x32, .f32⟩
  | 29 => ⟨S16x1024x32, .f32⟩
  | 30 => ⟨S1x32x64, .f32⟩
  | 31 => ⟨S32x64, .f32⟩
  | 32 => ⟨S16x1024x64, .f32⟩
  | 33 => ⟨S16x1024x64, .f32⟩
  | 34 => ⟨S1x1x64, .f32⟩
  | 35 => ⟨S16x1024x64, .f32⟩
  | 36 => ⟨S16x1024x64, .f32⟩
  | 37 => ⟨S1x3x64x64, .f32⟩
  | 38 => ⟨S3x64x64, .f32⟩
  | 39 => ⟨S1x64, .f32⟩
  | 40 => ⟨S64, .f32⟩
  | 41 => ⟨S1x64x64, .f32⟩
  | 42 => ⟨S64x64, .f32⟩
  | 43 => ⟨S16x1024x64, .f32⟩
  | 44 => ⟨S16x64x1024, .f32⟩
  | 45 => ⟨S16x1024x64, .f32⟩
  | 46 => ⟨S1x64x64, .f32⟩
  | 47 => ⟨S64x64, .f32⟩
  | 48 => ⟨S16x1024x64, .f32⟩
  | 49 => ⟨S16x1024x64, .f32⟩
  | 50 => ⟨S16x64x1024, .f32⟩
  | 51 => ⟨S16x1024x64, .f32⟩
  | 52 => ⟨S_, .f32⟩
  | 53 => ⟨S16x1024x64, .f32⟩
  | 54 => ⟨S16x1024x64, .f32⟩
  | 55 => ⟨S16x1024x64, .f32⟩
  | 56 => ⟨S1x64x64, .f32⟩
  | 57 => ⟨S64x64, .f32⟩
  | 58 => ⟨S16x1024x64, .f32⟩
  | 59 => ⟨S16x1024x64, .f32⟩
  | 60 => ⟨S1x1x64, .f32⟩
  | 61 => ⟨S16x1024x64, .f32⟩
  | 62 => ⟨S16x1024x64, .f32⟩
  | 63 => ⟨S16x1024x64, .f32⟩
  | 64 => ⟨S1x1x64, .f32⟩
  | 65 => ⟨S1x64, .f32⟩
  | 66 => ⟨S1x1x64, .f32⟩
  | 67 => ⟨S16x1024x64, .f32⟩
  | 68 => ⟨S16x1024x64, .f32⟩
  | 69 => ⟨S16x1024x64, .f32⟩
  | 70 => ⟨S1x1x64, .f32⟩
  | 71 => ⟨S1x64, .f32⟩
  | 72 => ⟨S1x1x64, .f32⟩
  | 73 => ⟨S16x1024x64, .f32⟩
  | 74 => ⟨S16x1024x64, .f32⟩
  | 75 => ⟨S16x1024x64, .f32⟩
  | 76 => ⟨S16x1024x64, .f32⟩
  | 77 => ⟨S_, .f32⟩
  | 78 => ⟨S16x1024x64, .f32⟩
  | 79 => ⟨S16x1024x64, .f32⟩
  | 80 => ⟨S_, .f32⟩
  | 81 => ⟨S16x1024x64, .f32⟩
  | 82 => ⟨S16x1024x64, .f32⟩
  | 83 => ⟨S1x3x32x64, .f32⟩
  | 84 => ⟨S3x32x64, .f32⟩
  | 85 => ⟨S1x64, .f32⟩
  | 86 => ⟨S64, .f32⟩
  | 87 => ⟨S1x32x64, .f32⟩
  | 88 => ⟨S32x64, .f32⟩
  | 89 => ⟨S16x1024x64, .f32⟩
  | 90 => ⟨S16x32x1024, .f32⟩
  | 91 => ⟨S16x1024x32, .f32⟩
  | 92 => ⟨S1x32x64, .f32⟩
  | 93 => ⟨S32x64, .f32⟩
  | 94 => ⟨S16x1024x64, .f32⟩
  | 95 => ⟨S16x1024x64, .f32⟩
  | 96 => ⟨S16x32x1024, .f32⟩
  | 97 => ⟨S16x1024x32, .f32⟩
  | 98 => ⟨S_, .f32⟩
  | 99 => ⟨S16x1024x32, .f32⟩
  | 100 => ⟨S16x1024x32, .f32⟩
  | 101 => ⟨S16x1024x32, .f32⟩
  | 102 => ⟨S1x32x64, .f32⟩
  | 103 => ⟨S32x64, .f32⟩
  | 104 => ⟨S16x1024x64, .f32⟩
  | 105 => ⟨S16x1024x64, .f32⟩
  | 106 => ⟨S1x1x64, .f32⟩
  | 107 => ⟨S16x1024x64, .f32⟩
  | 108 => ⟨S16x1024x64, .f32⟩
  | 109 => ⟨S1x3x64x64, .f32⟩
  | 110 => ⟨S3x64x64, .f32⟩
  | 111 => ⟨S1x64, .f32⟩
  | 112 => ⟨S64, .f32⟩
  | 113 => ⟨S1x64x64, .f32⟩
  | 114 => ⟨S64x64, .f32⟩
  | 115 => ⟨S16x1024x64, .f32⟩
  | 116 => ⟨S16x64x1024, .f32⟩
  | 117 => ⟨S16x1024x64, .f32⟩
  | 118 => ⟨S1x64x64, .f32⟩
  | 119 => ⟨S64x64, .f32⟩
  | 120 => ⟨S16x1024x64, .f32⟩
  | 121 => ⟨S16x1024x64, .f32⟩
  | 122 => ⟨S16x64x1024, .f32⟩
  | 123 => ⟨S16x1024x64, .f32⟩
  | 124 => ⟨S_, .f32⟩
  | 125 => ⟨S16x1024x64, .f32⟩
  | 126 => ⟨S16x1024x64, .f32⟩
  | 127 => ⟨S16x1024x64, .f32⟩
  | _ => ⟨S16x12x1024x32, .f32⟩

abbrev hbmTy0_2 (i : Nat) : BufTy := match i % 128 with
  | 0 => ⟨S1x64x64, .f32⟩
  | 1 => ⟨S64x64, .f32⟩
  | 2 => ⟨S16x1024x64, .f32⟩
  | 3 => ⟨S16x1024x64, .f32⟩
  | 4 => ⟨S1x1x64, .f32⟩
  | 5 => ⟨S16x1024x64, .f32⟩
  | 6 => ⟨S16x1024x64, .f32⟩
  | 7 => ⟨S16x1024x64, .f32⟩
  | 8 => ⟨S1x1x64, .f32⟩
  | 9 => ⟨S1x64, .f32⟩
  | 10 => ⟨S1x1x64, .f32⟩
  | 11 => ⟨S16x1024x64, .f32⟩
  | 12 => ⟨S16x1024x64, .f32⟩
  | 13 => ⟨S16x1024x64, .f32⟩
  | 14 => ⟨S16x1024x64, .f32⟩
  | 15 => ⟨S16x1024x64, .f32⟩
  | 16 => ⟨S16x1024x64, .f32⟩
  | 17 => ⟨S1x3x32x64, .f32⟩
  | 18 => ⟨S3x32x64, .f32⟩
  | 19 => ⟨S1x64, .f32⟩
  | 20 => ⟨S64, .f32⟩
  | 21 => ⟨S1x32x64, .f32⟩
  | 22 => ⟨S32x64, .f32⟩
  | 23 => ⟨S16x1024x64, .f32⟩
  | 24 => ⟨S16x32x1024, .f32⟩
  | 25 => ⟨S16x1024x32, .f32⟩
  | 26 => ⟨S1x32x64, .f32⟩
  | 27 => ⟨S32x64, .f32⟩
  | 28 => ⟨S16x1024x64, .f32⟩
  | 29 => ⟨S16x1024x64, .f32⟩
  | 30 => ⟨S16x32x1024, .f32⟩
  | 31 => ⟨S16x1024x32, .f32⟩
  | 32 => ⟨S_, .f32⟩
  | 33 => ⟨S16x1024x32, .f32⟩
  | 34 => ⟨S16x1024x32, .f32⟩
  | 35 => ⟨S16x1024x32, .f32⟩
  | 36 => ⟨S1x32x64, .f32⟩
  | 37 => ⟨S32x64, .f32⟩
  | 38 => ⟨S16x1024x64, .f32⟩
  | 39 => ⟨S16x1024x64, .f32⟩
  | 40 => ⟨S1x1x64, .f32⟩
  | 41 => ⟨S16x1024x64, .f32⟩
  | 42 => ⟨S16x1024x64, .f32⟩
  | 43 => ⟨S1x3x64x64, .f32⟩
  | 44 => ⟨S3x64x64, .f32⟩
  | 45 => ⟨S1x64, .f32⟩
  | 46 => ⟨S64, .f32⟩
  | 47 => ⟨S1x64x64, .f32⟩
  | 48 => ⟨S64x64, .f32⟩
  | 49 => ⟨S16x1024x64, .f32⟩
  | 50 => ⟨S16x64x1024, .f32⟩
  | 51 => ⟨S16x1024x64, .f32⟩
  | 52 => ⟨S1x64x64, .f32⟩
  | 53 => ⟨S64x64, .f32⟩
  | 54 => ⟨S16x1024x64, .f32⟩
  | 55 => ⟨S16x1024x64, .f32⟩
  | 56 => ⟨S16x64x1024, .f32⟩
  | 57 => ⟨S16x1024x64, .f32⟩
  | 58 => ⟨S_, .f32⟩
  | 59 => ⟨S16x1024x64, .f32⟩
  | 60 => ⟨S16x1024x64, .f32⟩
  | 61 => ⟨S16x1024x64, .f32⟩
  | 62 => ⟨S1x64x64, .f32⟩
  | 63 => ⟨S64x64, .f32⟩
  | 64 => ⟨S16x1024x64, .f32⟩
  | 65 => ⟨S16x1024x64, .f32⟩
  | 66 => ⟨S1x1x64, .f32⟩
  | 67 => ⟨S16x1024x64, .f32⟩
  | 68 => ⟨S16x1024x64, .f32⟩
  | 69 => ⟨S16x1024x64, .f32⟩
  | 70 => ⟨S1x1x64, .f32⟩
  | 71 => ⟨S1x64, .f32⟩
  | 72 => ⟨S1x1x64, .f32⟩
  | 73 => ⟨S16x1024x64, .f32⟩
  | 74 => ⟨S16x1024x64, .f32⟩
  | 75 => ⟨S16x1024x64, .f32⟩
  | 76 => ⟨S1x1x64, .f32⟩
  | 77 => ⟨S1x64, .f32⟩
  | 78 => ⟨S1x1x64, .f32⟩
  | 79 => ⟨S16x1024x64, .f32⟩
  | 80 => ⟨S16x1024x64, .f32⟩
  | 81 => ⟨S16x1024x64, .f32⟩
  | 82 => ⟨S16x1024x64, .f32⟩
  | 83 => ⟨S_, .f32⟩
  | 84 => ⟨S16x1024x64, .f32⟩
  | 85 => ⟨S16x1024x64, .f32⟩
  | 86 => ⟨S_, .f32⟩
  | 87 => ⟨S16x1024x64, .f32⟩
  | 88 => ⟨S16x1024x64, .f32⟩
  | 89 => ⟨S16x1024x64, .f32⟩
  | 90 => ⟨S16x1024x64, .f32⟩
  | 91 => ⟨S1x16x1024x64, .f32⟩
  | 92 => ⟨S_, .i32⟩
  | 93 => ⟨S_, .i32⟩
  | 94 => ⟨S_, .i32⟩
  | 95 => ⟨S12x16x1024x64, .f32⟩
  | 96 => ⟨S_, .i32⟩
  | 97 => ⟨S_, .i32⟩
  | 98 => ⟨S16x12x1024x64, .f32⟩
  | _ => ⟨S16x12x1024x32, .f32⟩

abbrev hbmTy (i : Nat) : BufTy := match i / 128 with
  | 0 => hbmTy0_0 i
  | 1 => hbmTy0_1 i
  | 2 => hbmTy0_2 i
  | _ => ⟨S16x12x1024x32, .f32⟩

abbrev bufTy : (tb : Table) → Fin (tcTables nBuf tb) → BufTy
  | .hbm, ⟨i, _⟩ => hbmTy i
  | _, _ => ⟨S16x12x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v6_8 : Ref sig .tc := ⟨.hbm, 26, rfl⟩
abbrev main_v6_9 : Ref sig .tc := ⟨.hbm, 27, rfl⟩
abbrev main_v6_10 : Ref sig .tc := ⟨.hbm, 28, rfl⟩
abbrev main_v6_11 : Ref sig .tc := ⟨.hbm, 29, rfl⟩
abbrev main_while0c_c_11 : Ref sig .tc := ⟨.hbm, 30, rfl⟩
abbrev main_while0c_v8 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_c_1 : Ref sig .tc := ⟨.hbm, 34, rfl⟩
abbrev main_while0b_call0_v0 : Ref sig .tc := ⟨.hbm, 35, rfl⟩
abbrev main_while0b_v8 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_c_2 : Ref sig .tc := ⟨.hbm, 40, rfl⟩
abbrev main_while0b_call1_v0 : Ref sig .tc := ⟨.hbm, 41, rfl⟩
abbrev main_while0b_v9 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_v0 : Ref sig .tc := ⟨.hbm, 45, rfl⟩
abbrev main_while0b_v10 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_call3_c_1 : Ref sig .tc := ⟨.hbm, 49, rfl⟩
abbrev main_while0b_call3_c_2 : Ref sig .tc := ⟨.hbm, 50, rfl⟩
abbrev main_while0b_call3_v0 : Ref sig .tc := ⟨.hbm, 51, rfl⟩
abbrev main_while0b_v11 : Ref sig .tc := ⟨.hbm, 52, rfl⟩
abbrev main_while0b_call4_c : Ref sig .tc := ⟨.hbm, 53, rfl⟩
abbrev main_while0b_call4_c_0 : Ref sig .tc := ⟨.hbm, 54, rfl⟩
abbrev main_while0b_call4_v0 : Ref sig .tc := ⟨.hbm, 55, rfl⟩
abbrev main_while0b_v12 : Ref sig .tc := ⟨.hbm, 56, rfl⟩
abbrev main_while0b_call5_c : Ref sig .tc := ⟨.hbm, 57, rfl⟩
abbrev main_while0b_call5_c_0 : Ref sig .tc := ⟨.hbm, 58, rfl⟩
abbrev main_while0b_call5_c_1 : Ref sig .tc := ⟨.hbm, 59, rfl⟩
abbrev main_while0b_call5_v0 : Ref sig .tc := ⟨.hbm, 60, rfl⟩
abbrev main_while0b_v13 : Ref sig .tc := ⟨.hbm, 61, rfl⟩
abbrev main_while0b_call6_c : Ref sig .tc := ⟨.hbm, 62, rfl⟩
abbrev main_while0b_call6_c_0 : Ref sig .tc := ⟨.hbm, 63, rfl⟩
abbrev main_while0b_call6_c_1 : Ref sig .tc := ⟨.hbm, 64, rfl⟩
abbrev main_while0b_call6_v0 : Ref sig .tc := ⟨.hbm, 65, rfl⟩
abbrev main_while0b_v14 : Ref sig .tc := ⟨.hbm, 66, rfl⟩
abbrev main_while0b_v15 : Ref sig .tc := ⟨.hbm, 67, rfl⟩
abbrev main_while0b_v16 : Ref sig .tc := ⟨.hbm, 68, rfl⟩
abbrev main_while0b_v17 : Ref sig .tc := ⟨.hbm, 69, rfl⟩
abbrev main_while0b_v18 : Ref sig .tc := ⟨.hbm, 70, rfl⟩
abbrev main_while0b_v19 : Ref sig .tc := ⟨.hbm, 71, rfl⟩
abbrev main_while0b_v20 : Ref sig .tc := ⟨.hbm, 72, rfl⟩
abbrev main_while0b_v21 : Ref sig .tc := ⟨.hbm, 73, rfl⟩
abbrev main_while0b_v22 : Ref sig .tc := ⟨.hbm, 74, rfl⟩
abbrev main_while0b_v23 : Ref sig .tc := ⟨.hbm, 75, rfl⟩
abbrev main_while0b_v24 : Ref sig .tc := ⟨.hbm, 76, rfl⟩
abbrev main_while0b_v25 : Ref sig .tc := ⟨.hbm, 77, rfl⟩
abbrev main_while0b_v26 : Ref sig .tc := ⟨.hbm, 78, rfl⟩
abbrev main_while0b_v27 : Ref sig .tc := ⟨.hbm, 79, rfl⟩
abbrev main_while0b_v28 : Ref sig .tc := ⟨.hbm, 80, rfl⟩
abbrev main_while0b_v29 : Ref sig .tc := ⟨.hbm, 81, rfl⟩
abbrev main_while0b_cst_11 : Ref sig .tc := ⟨.hbm, 82, rfl⟩
abbrev main_while0b_v30 : Ref sig .tc := ⟨.hbm, 83, rfl⟩
abbrev main_while0b_v31 : Ref sig .tc := ⟨.hbm, 84, rfl⟩
abbrev main_while0b_v32 : Ref sig .tc := ⟨.hbm, 85, rfl⟩
abbrev main_while0b_v33 : Ref sig .tc := ⟨.hbm, 86, rfl⟩
abbrev main_while0b_v34 : Ref sig .tc := ⟨.hbm, 87, rfl⟩
abbrev main_while0b_v35 : Ref sig .tc := ⟨.hbm, 88, rfl⟩
abbrev main_while0b_v36 : Ref sig .tc := ⟨.hbm, 89, rfl⟩
abbrev main_while0b_v37 : Ref sig .tc := ⟨.hbm, 90, rfl⟩
abbrev main_while0b_v38 : Ref sig .tc := ⟨.hbm, 91, rfl⟩
abbrev main_while0b_v39 : Ref sig .tc := ⟨.hbm, 92, rfl⟩
abbrev main_while0b_v40 : Ref sig .tc := ⟨.hbm, 93, rfl⟩
abbrev main_while0b_v41 : Ref sig .tc := ⟨.hbm, 94, rfl⟩
abbrev main_while0b_v42 : Ref sig .tc := ⟨.hbm, 95, rfl⟩
abbrev main_while0b_v43 : Ref sig .tc := ⟨.hbm, 96, rfl⟩
abbrev main_while0b_v44 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_cst_12 : Ref sig .tc := ⟨.hbm, 108, rfl⟩
abbrev main_while0b_v55 : Ref sig .tc := ⟨.hbm, 109, rfl⟩
abbrev main_while0b_v56 : Ref sig .tc := ⟨.hbm, 110, rfl⟩
abbrev main_while0b_v57 : Ref sig .tc := ⟨.hbm, 111, rfl⟩
abbrev main_while0b_v58 : Ref sig .tc := ⟨.hbm, 112, rfl⟩
abbrev main_while0b_v59 : Ref sig .tc := ⟨.hbm, 113, rfl⟩
abbrev main_while0b_v60 : Ref sig .tc := ⟨.hbm, 114, rfl⟩
abbrev main_while0b_v61 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_v68 : Ref sig .tc := ⟨.hbm, 122, rfl⟩
abbrev main_while0b_v69 : Ref sig .tc := ⟨.hbm, 123, rfl⟩
abbrev main_while0b_v70 : Ref sig .tc := ⟨.hbm, 124, rfl⟩
abbrev main_while0b_v71 : Ref sig .tc := ⟨.hbm, 125, rfl⟩
abbrev main_while0b_v72 : Ref sig .tc := ⟨.hbm, 126, rfl⟩
abbrev main_while0b_v73 : Ref sig .tc := ⟨.hbm, 127, rfl⟩
abbrev main_while0b_v74 : Ref sig .tc := ⟨.hbm, 128, rfl⟩
abbrev main_while0b_v75 : Ref sig .tc := ⟨.hbm, 129, rfl⟩
abbrev main_while0b_v76 : Ref sig .tc := ⟨.hbm, 130, rfl⟩
abbrev main_while0b_v77 : Ref sig .tc := ⟨.hbm, 131, rfl⟩
abbrev main_while0b_v78 : Ref sig .tc := ⟨.hbm, 132, rfl⟩
abbrev main_while0b_cst_13 : Ref sig .tc := ⟨.hbm, 133, rfl⟩
abbrev main_while0b_v79 : Ref sig .tc := ⟨.hbm, 134, rfl⟩
abbrev main_while0b_v80 : Ref sig .tc := ⟨.hbm, 135, rfl⟩
abbrev main_while0b_cst_14 : Ref sig .tc := ⟨.hbm, 136, rfl⟩
abbrev main_while0b_v81 : Ref sig .tc := ⟨.hbm, 137, rfl⟩
abbrev main_while0b_v82 : Ref sig .tc := ⟨.hbm, 138, rfl⟩
abbrev main_while0b_v83 : Ref sig .tc := ⟨.hbm, 139, rfl⟩
abbrev main_while0b_v84 : Ref sig .tc := ⟨.hbm, 140, rfl⟩
abbrev main_while0b_v85 : Ref sig .tc := ⟨.hbm, 141, rfl⟩
abbrev main_while0b_v86 : Ref sig .tc := ⟨.hbm, 142, rfl⟩
abbrev main_while0b_v87 : Ref sig .tc := ⟨.hbm, 143, rfl⟩
abbrev main_while0b_v88 : Ref sig .tc := ⟨.hbm, 144, rfl⟩
abbrev main_while0b_v89 : Ref sig .tc := ⟨.hbm, 145, rfl⟩
abbrev main_while0b_v90 : Ref sig .tc := ⟨.hbm, 146, rfl⟩
abbrev main_while0b_v91 : Ref sig .tc := ⟨.hbm, 147, rfl⟩
abbrev main_while0b_v92 : Ref sig .tc := ⟨.hbm, 148, rfl⟩
abbrev main_while0b_v93 : Ref sig .tc := ⟨.hbm, 149, rfl⟩
abbrev main_while0b_v94 : Ref sig .tc := ⟨.hbm, 150, rfl⟩
abbrev main_while0b_v95 : Ref sig .tc := ⟨.hbm, 151, rfl⟩
abbrev main_while0b_v96 : Ref sig .tc := ⟨.hbm, 152, rfl⟩
abbrev main_while0b_v97 : Ref sig .tc := ⟨.hbm, 153, rfl⟩
abbrev main_while0b_cst_15 : Ref sig .tc := ⟨.hbm, 154, rfl⟩
abbrev main_while0b_v98 : Ref sig .tc := ⟨.hbm, 155, rfl⟩
abbrev main_while0b_v99 : Ref sig .tc := ⟨.hbm, 156, rfl⟩
abbrev main_while0b_v100 : Ref sig .tc := ⟨.hbm, 157, rfl⟩
abbrev main_while0b_v101 : Ref sig .tc := ⟨.hbm, 158, rfl⟩
abbrev main_while0b_v102 : Ref sig .tc := ⟨.hbm, 159, rfl⟩
abbrev main_while0b_v103 : Ref sig .tc := ⟨.hbm, 160, rfl⟩
abbrev main_while0b_v104 : Ref sig .tc := ⟨.hbm, 161, rfl⟩
abbrev main_while0b_v105 : Ref sig .tc := ⟨.hbm, 162, rfl⟩
abbrev main_while0b_v106 : Ref sig .tc := ⟨.hbm, 163, rfl⟩
abbrev main_while0b_v107 : Ref sig .tc := ⟨.hbm, 164, rfl⟩
abbrev main_while0b_v108 : Ref sig .tc := ⟨.hbm, 165, rfl⟩
abbrev main_while0b_v109 : Ref sig .tc := ⟨.hbm, 166, rfl⟩
abbrev main_while0b_v110 : Ref sig .tc := ⟨.hbm, 167, rfl⟩
abbrev main_while0b_v111 : Ref sig .tc := ⟨.hbm, 168, rfl⟩
abbrev main_while0b_v112 : Ref sig .tc := ⟨.hbm, 169, rfl⟩
abbrev main_while0b_v113 : Ref sig .tc := ⟨.hbm, 170, rfl⟩
abbrev main_while0b_v114 : Ref sig .tc := ⟨.hbm, 171, rfl⟩
abbrev main_while0b_v115 : Ref sig .tc := ⟨.hbm, 172, rfl⟩
abbrev main_while0b_v116 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_v120 : Ref sig .tc := ⟨.hbm, 177, rfl⟩
abbrev main_while0b_v121 : Ref sig .tc := ⟨.hbm, 178, rfl⟩
abbrev main_while0b_v122 : Ref sig .tc := ⟨.hbm, 179, rfl⟩
abbrev main_while0b_cst_16 : Ref sig .tc := ⟨.hbm, 180, rfl⟩
abbrev main_while0b_v123 : Ref sig .tc := ⟨.hbm, 181, rfl⟩
abbrev main_while0b_v124 : Ref sig .tc := ⟨.hbm, 182, rfl⟩
abbrev main_while0b_v125 : Ref sig .tc := ⟨.hbm, 183, rfl⟩
abbrev main_while0b_v126 : Ref sig .tc := ⟨.hbm, 184, rfl⟩
abbrev main_while0b_v127 : Ref sig .tc := ⟨.hbm, 185, rfl⟩
abbrev main_while0b_v128 : Ref sig .tc := ⟨.hbm, 186, rfl⟩
abbrev main_while0b_v129 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_v135 : Ref sig .tc := ⟨.hbm, 193, rfl⟩
abbrev main_while0b_v136 : Ref sig .tc := ⟨.hbm, 194, rfl⟩
abbrev main_while0b_v137 : Ref sig .tc := ⟨.hbm, 195, rfl⟩
abbrev main_while0b_v138 : Ref sig .tc := ⟨.hbm, 196, rfl⟩
abbrev main_while0b_v139 : Ref sig .tc := ⟨.hbm, 197, rfl⟩
abbrev main_while0b_v140 : Ref sig .tc := ⟨.hbm, 198, rfl⟩
abbrev main_while0b_v141 : Ref sig .tc := ⟨.hbm, 199, rfl⟩
abbrev main_while0b_v142 : Ref sig .tc := ⟨.hbm, 200, rfl⟩
abbrev main_while0b_v143 : Ref sig .tc := ⟨.hbm, 201, rfl⟩
abbrev main_while0b_v144 : Ref sig .tc := ⟨.hbm, 202, rfl⟩
abbrev main_while0b_v145 : Ref sig .tc := ⟨.hbm, 203, rfl⟩
abbrev main_while0b_v146 : Ref sig .tc := ⟨.hbm, 204, rfl⟩
abbrev main_while0b_cst_17 : Ref sig .tc := ⟨.hbm, 205, rfl⟩
abbrev main_while0b_v147 : Ref sig .tc := ⟨.hbm, 206, rfl⟩
abbrev main_while0b_v148 : Ref sig .tc := ⟨.hbm, 207, rfl⟩
abbrev main_while0b_cst_18 : Ref sig .tc := ⟨.hbm, 208, rfl⟩
abbrev main_while0b_v149 : Ref sig .tc := ⟨.hbm, 209, rfl⟩
abbrev main_while0b_v150 : Ref sig .tc := ⟨.hbm, 210, rfl⟩
abbrev main_while0b_v151 : Ref sig .tc := ⟨.hbm, 211, rfl⟩
abbrev main_while0b_v152 : Ref sig .tc := ⟨.hbm, 212, rfl⟩
abbrev main_while0b_v153 : Ref sig .tc := ⟨.hbm, 213, rfl⟩
abbrev main_while0b_v154 : Ref sig .tc := ⟨.hbm, 214, rfl⟩
abbrev main_while0b_v155 : Ref sig .tc := ⟨.hbm, 215, rfl⟩
abbrev main_while0b_v156 : Ref sig .tc := ⟨.hbm, 216, rfl⟩
abbrev main_while0b_v157 : Ref sig .tc := ⟨.hbm, 217, rfl⟩
abbrev main_while0b_v158 : Ref sig .tc := ⟨.hbm, 218, rfl⟩
abbrev main_while0b_v159 : Ref sig .tc := ⟨.hbm, 219, rfl⟩
abbrev main_while0b_v160 : Ref sig .tc := ⟨.hbm, 220, rfl⟩
abbrev main_while0b_v161 : Ref sig .tc := ⟨.hbm, 221, rfl⟩
abbrev main_while0b_v162 : Ref sig .tc := ⟨.hbm, 222, rfl⟩
abbrev main_while0b_v163 : Ref sig .tc := ⟨.hbm, 223, rfl⟩
abbrev main_while0b_v164 : Ref sig .tc := ⟨.hbm, 224, rfl⟩
abbrev main_while0b_v165 : Ref sig .tc := ⟨.hbm, 225, rfl⟩
abbrev main_while0b_cst_19 : Ref sig .tc := ⟨.hbm, 226, rfl⟩
abbrev main_while0b_v166 : Ref sig .tc := ⟨.hbm, 227, rfl⟩
abbrev main_while0b_v167 : Ref sig .tc := ⟨.hbm, 228, rfl⟩
abbrev main_while0b_v168 : Ref sig .tc := ⟨.hbm, 229, rfl⟩
abbrev main_while0b_v169 : Ref sig .tc := ⟨.hbm, 230, rfl⟩
abbrev main_while0b_v170 : Ref sig .tc := ⟨.hbm, 231, rfl⟩
abbrev main_while0b_v171 : Ref sig .tc := ⟨.hbm, 232, rfl⟩
abbrev main_while0b_v172 : Ref sig .tc := ⟨.hbm, 233, rfl⟩
abbrev main_while0b_v173 : Ref sig .tc := ⟨.hbm, 234, rfl⟩
abbrev main_while0b_v174 : Ref sig .tc := ⟨.hbm, 235, rfl⟩
abbrev main_while0b_v175 : Ref sig .tc := ⟨.hbm, 236, rfl⟩
abbrev main_while0b_v176 : Ref sig .tc := ⟨.hbm, 237, rfl⟩
abbrev main_while0b_v177 : Ref sig .tc := ⟨.hbm, 238, rfl⟩
abbrev main_while0b_v178 : Ref sig .tc := ⟨.hbm, 239, rfl⟩
abbrev main_while0b_v179 : Ref sig .tc := ⟨.hbm, 240, rfl⟩
abbrev main_while0b_v180 : Ref sig .tc := ⟨.hbm, 241, rfl⟩
abbrev main_while0b_v181 : Ref sig .tc := ⟨.hbm, 242, rfl⟩
abbrev main_while0b_v182 : Ref sig .tc := ⟨.hbm, 243, rfl⟩
abbrev main_while0b_v183 : Ref sig .tc := ⟨.hbm, 244, rfl⟩
abbrev main_while0b_v184 : Ref sig .tc := ⟨.hbm, 245, rfl⟩
abbrev main_while0b_v185 : Ref sig .tc := ⟨.hbm, 246, rfl⟩
abbrev main_while0b_v186 : Ref sig .tc := ⟨.hbm, 247, rfl⟩
abbrev main_while0b_v187 : Ref sig .tc := ⟨.hbm, 248, rfl⟩
abbrev main_while0b_v188 : Ref sig .tc := ⟨.hbm, 249, rfl⟩
abbrev main_while0b_v189 : Ref sig .tc := ⟨.hbm, 250, rfl⟩
abbrev main_while0b_v190 : Ref sig .tc := ⟨.hbm, 251, rfl⟩
abbrev main_while0b_cst_20 : Ref sig .tc := ⟨.hbm, 252, rfl⟩
abbrev main_while0b_v191 : Ref sig .tc := ⟨.hbm, 253, rfl⟩
abbrev main_while0b_v192 : Ref sig .tc := ⟨.hbm, 254, rfl⟩
abbrev main_while0b_v193 : Ref sig .tc := ⟨.hbm, 255, rfl⟩
abbrev main_while0b_v194 : Ref sig .tc := ⟨.hbm, 256, rfl⟩
abbrev main_while0b_v195 : Ref sig .tc := ⟨.hbm, 257, rfl⟩
abbrev main_while0b_v196 : Ref sig .tc := ⟨.hbm, 258, rfl⟩
abbrev main_while0b_v197 : Ref sig .tc := ⟨.hbm, 259, rfl⟩
abbrev main_while0b_v198 : Ref sig .tc := ⟨.hbm, 260, rfl⟩
abbrev main_while0b_v199 : Ref sig .tc := ⟨.hbm, 261, rfl⟩
abbrev main_while0b_v200 : Ref sig .tc := ⟨.hbm, 262, rfl⟩
abbrev main_while0b_v201 : Ref sig .tc := ⟨.hbm, 263, rfl⟩
abbrev main_while0b_v202 : Ref sig .tc := ⟨.hbm, 264, rfl⟩
abbrev main_while0b_v203 : Ref sig .tc := ⟨.hbm, 265, rfl⟩
abbrev main_while0b_v204 : Ref sig .tc := ⟨.hbm, 266, rfl⟩
abbrev main_while0b_v205 : Ref sig .tc := ⟨.hbm, 267, rfl⟩
abbrev main_while0b_v206 : Ref sig .tc := ⟨.hbm, 268, rfl⟩
abbrev main_while0b_v207 : Ref sig .tc := ⟨.hbm, 269, rfl⟩
abbrev main_while0b_v208 : Ref sig .tc := ⟨.hbm, 270, rfl⟩
abbrev main_while0b_v209 : Ref sig .tc := ⟨.hbm, 271, rfl⟩
abbrev main_while0b_v210 : Ref sig .tc := ⟨.hbm, 272, rfl⟩
abbrev main_while0b_v211 : Ref sig .tc := ⟨.hbm, 273, rfl⟩
abbrev main_while0b_v212 : Ref sig .tc := ⟨.hbm, 274, rfl⟩
abbrev main_while0b_v213 : Ref sig .tc := ⟨.hbm, 275, rfl⟩
abbrev main_while0b_v214 : Ref sig .tc := ⟨.hbm, 276, rfl⟩
abbrev main_while0b_v215 : Ref sig .tc := ⟨.hbm, 277, rfl⟩
abbrev main_while0b_v216 : Ref sig .tc := ⟨.hbm, 278, rfl⟩
abbrev main_while0b_v217 : Ref sig .tc := ⟨.hbm, 279, rfl⟩
abbrev main_while0b_v218 : Ref sig .tc := ⟨.hbm, 280, rfl⟩
abbrev main_while0b_v219 : Ref sig .tc := ⟨.hbm, 281, rfl⟩
abbrev main_while0b_v220 : Ref sig .tc := ⟨.hbm, 282, rfl⟩
abbrev main_while0b_v221 : Ref sig .tc := ⟨.hbm, 283, rfl⟩
abbrev main_while0b_v222 : Ref sig .tc := ⟨.hbm, 284, rfl⟩
abbrev main_while0b_v223 : Ref sig .tc := ⟨.hbm, 285, rfl⟩
abbrev main_while0b_v224 : Ref sig .tc := ⟨.hbm, 286, rfl⟩
abbrev main_while0b_v225 : Ref sig .tc := ⟨.hbm, 287, rfl⟩
abbrev main_while0b_cst_21 : Ref sig .tc := ⟨.hbm, 288, rfl⟩
abbrev main_while0b_v226 : Ref sig .tc := ⟨.hbm, 289, rfl⟩
abbrev main_while0b_v227 : Ref sig .tc := ⟨.hbm, 290, rfl⟩
abbrev main_while0b_v228 : Ref sig .tc := ⟨.hbm, 291, rfl⟩
abbrev main_while0b_v229 : Ref sig .tc := ⟨.hbm, 292, rfl⟩
abbrev main_while0b_v230 : Ref sig .tc := ⟨.hbm, 293, rfl⟩
abbrev main_while0b_v231 : Ref sig .tc := ⟨.hbm, 294, rfl⟩
abbrev main_while0b_v232 : Ref sig .tc := ⟨.hbm, 295, rfl⟩
abbrev main_while0b_v233 : Ref sig .tc := ⟨.hbm, 296, rfl⟩
abbrev main_while0b_v234 : Ref sig .tc := ⟨.hbm, 297, rfl⟩
abbrev main_while0b_v235 : Ref sig .tc := ⟨.hbm, 298, rfl⟩
abbrev main_while0b_v236 : Ref sig .tc := ⟨.hbm, 299, rfl⟩
abbrev main_while0b_v237 : Ref sig .tc := ⟨.hbm, 300, rfl⟩
abbrev main_while0b_v238 : Ref sig .tc := ⟨.hbm, 301, rfl⟩
abbrev main_while0b_v239 : Ref sig .tc := ⟨.hbm, 302, rfl⟩
abbrev main_while0b_v240 : Ref sig .tc := ⟨.hbm, 303, rfl⟩
abbrev main_while0b_v241 : Ref sig .tc := ⟨.hbm, 304, rfl⟩
abbrev main_while0b_v242 : Ref sig .tc := ⟨.hbm, 305, rfl⟩
abbrev main_while0b_v243 : Ref sig .tc := ⟨.hbm, 306, rfl⟩
abbrev main_while0b_v244 : Ref sig .tc := ⟨.hbm, 307, rfl⟩
abbrev main_while0b_v245 : Ref sig .tc := ⟨.hbm, 308, rfl⟩
abbrev main_while0b_v246 : Ref sig .tc := ⟨.hbm, 309, rfl⟩
abbrev main_while0b_v247 : Ref sig .tc := ⟨.hbm, 310, rfl⟩
abbrev main_while0b_v248 : Ref sig .tc := ⟨.hbm, 311, rfl⟩
abbrev main_while0b_v249 : Ref sig .tc := ⟨.hbm, 312, rfl⟩
abbrev main_while0b_v250 : Ref sig .tc := ⟨.hbm, 313, rfl⟩
abbrev main_while0b_cst_22 : Ref sig .tc := ⟨.hbm, 314, rfl⟩
abbrev main_while0b_v251 : Ref sig .tc := ⟨.hbm, 315, rfl⟩
abbrev main_while0b_v252 : Ref sig .tc := ⟨.hbm, 316, rfl⟩
abbrev main_while0b_v253 : Ref sig .tc := ⟨.hbm, 317, rfl⟩
abbrev main_while0b_v254 : Ref sig .tc := ⟨.hbm, 318, rfl⟩
abbrev main_while0b_v255 : Ref sig .tc := ⟨.hbm, 319, rfl⟩
abbrev main_while0b_v256 : Ref sig .tc := ⟨.hbm, 320, rfl⟩
abbrev main_while0b_v257 : Ref sig .tc := ⟨.hbm, 321, rfl⟩
abbrev main_while0b_v258 : Ref sig .tc := ⟨.hbm, 322, rfl⟩
abbrev main_while0b_v259 : Ref sig .tc := ⟨.hbm, 323, rfl⟩
abbrev main_while0b_v260 : Ref sig .tc := ⟨.hbm, 324, rfl⟩
abbrev main_while0b_v261 : Ref sig .tc := ⟨.hbm, 325, rfl⟩
abbrev main_while0b_v262 : Ref sig .tc := ⟨.hbm, 326, rfl⟩
abbrev main_while0b_v263 : Ref sig .tc := ⟨.hbm, 327, rfl⟩
abbrev main_while0b_v264 : Ref sig .tc := ⟨.hbm, 328, rfl⟩
abbrev main_while0b_v265 : Ref sig .tc := ⟨.hbm, 329, rfl⟩
abbrev main_while0b_v266 : Ref sig .tc := ⟨.hbm, 330, rfl⟩
abbrev main_while0b_v267 : Ref sig .tc := ⟨.hbm, 331, rfl⟩
abbrev main_while0b_v268 : Ref sig .tc := ⟨.hbm, 332, rfl⟩
abbrev main_while0b_v269 : Ref sig .tc := ⟨.hbm, 333, rfl⟩
abbrev main_while0b_v270 : Ref sig .tc := ⟨.hbm, 334, rfl⟩
abbrev main_while0b_v271 : Ref sig .tc := ⟨.hbm, 335, rfl⟩
abbrev main_while0b_v272 : Ref sig .tc := ⟨.hbm, 336, rfl⟩
abbrev main_while0b_v273 : Ref sig .tc := ⟨.hbm, 337, rfl⟩
abbrev main_while0b_v274 : Ref sig .tc := ⟨.hbm, 338, rfl⟩
abbrev main_while0b_cst_23 : Ref sig .tc := ⟨.hbm, 339, rfl⟩
abbrev main_while0b_v275 : Ref sig .tc := ⟨.hbm, 340, rfl⟩
abbrev main_while0b_v276 : Ref sig .tc := ⟨.hbm, 341, rfl⟩
abbrev main_while0b_cst_24 : Ref sig .tc := ⟨.hbm, 342, rfl⟩
abbrev main_while0b_v277 : Ref sig .tc := ⟨.hbm, 343, rfl⟩
abbrev main_while0b_v278 : Ref sig .tc := ⟨.hbm, 344, rfl⟩
abbrev main_while0b_v279 : Ref sig .tc := ⟨.hbm, 345, rfl⟩
abbrev main_while0b_v280 : Ref sig .tc := ⟨.hbm, 346, rfl⟩
abbrev main_while0b_call7_v0 : Ref sig .tc := ⟨.hbm, 347, rfl⟩
abbrev main_while0b_call7_c : Ref sig .tc := ⟨.hbm, 348, rfl⟩
abbrev main_while0b_call7_c_0 : Ref sig .tc := ⟨.hbm, 349, rfl⟩
abbrev main_while0b_call7_c_1 : Ref sig .tc := ⟨.hbm, 350, rfl⟩
abbrev main_while0b_v281 : Ref sig .tc := ⟨.hbm, 351, rfl⟩
abbrev main_while0b_c_25 : Ref sig .tc := ⟨.hbm, 352, rfl⟩
abbrev main_while0b_v282 : Ref sig .tc := ⟨.hbm, 353, rfl⟩
abbrev main_v7 : Ref sig .tc := ⟨.hbm, 354, rfl⟩

abbrev nD : Nat := 1
abbrev τ : Topo := Topo.v7x

variable {F : FTy → Type} [FloatOps F]

abbrev main_while0_count : Scf.Loop 32 := ⟨0#32, 12#32, 1#32⟩
-- ==== Proof.Pieces.lean ====
module

public import proofs.«01_k».proof.Proof.Gen.KernelIdeal.Frame

/-! # What one grid point of the kernel stores

The body of the kernel works through the sixteen batch entries one after the other.  For each of them
it computes a new cell state and a new hidden state and stores three slabs.  Here that computation is
written once, for batch entry `b`, and the lists of pieces the two cases of the body leave (the grid's
first point, which first copies the initial states into the scratch buffers, and every later point)
are shown to be these slabs, `b = 0, 1, …, 15`. -/

@[expose] public section

set_option maxRecDepth 16384

noncomputable section

namespace Cert.Blocks

open Idealize Idealize.ShloMosaic Cert.KernelIdeal Cert.KernelIdeal.Gen

variable {F : FTy → Type} [FloatOps F]

/-- The arrays one grid point loads, besides the two recurrent states. -/
structure Loads (F : FTy → Type) where
  /-- the transposed operator -/
  lt : Vec F S1024x1024 .f32
  /-- the point's input, channels by nodes for every batch entry -/
  x : Vec F S1x16x32x1024 .f32
  /-- input weights of the three Chebyshev terms -/
  wx0 : Vec F S1x1x256x32 .f32
  wx1 : Vec F S1x1x256x32 .f32
  wx2 : Vec F S1x1x256x32 .f32
  /-- hidden weights of the three Chebyshev terms -/
  wh0 : Vec F S1x1x256x64 .f32
  wh1 : Vec F S1x1x256x64 .f32
  wh2 : Vec F S1x1x256x64 .f32
  /-- the two convolution biases, all four gates stacked -/
  bx : Vec F S1x256x1 .f32
  bh : Vec F S1x256x1 .f32
  /-- the three peephole weights -/
  wc0 : Vec F S1x1x64x1 .f32
  wc1 : Vec F S1x1x64x1 .f32
  wc2 : Vec F S1x1x64x1 .f32
  /-- the four gate biases -/
  bg0 : Vec F S1x64x1 .f32
  bg1 : Vec F S1x64x1 .f32
  bg2 : Vec F S1x64x1 .f32
  bg3 : Vec F S1x64x1 .f32
  /-- the constant one -/
  one : Vec F S1x1 .f32

theorem slicesX (b : ℕ) (hb : b < 16) : S16x32x1024.Slices ![b, 0, 0] S1x32x1024 := by
  revert b; decide

theorem slicesH (b : ℕ) (hb : b < 16) : S16x64x1024.Slices ![b, 0, 0] S1x64x1024 := by
  revert b; decide

theorem inbH (b : ℕ) (hb : b < 16) :
    ∀ a, (![b, 0, 0] : Fin 3 → Nat) a + S1x64x1024.size a ≤ S16x64x1024.size a := by
  revert b; decide

theorem inbO (b : ℕ) (hb : b < 16) :
    ∀ a, (![b, 0, 0, 0] : Fin 4 → Nat) a + S1x1x64x1024.size a ≤ S16x1x64x1024.size a := by
  revert b; decide

/-- The rectangle of batch entry `b` in a state buffer. -/
abbrev slab (b : ℕ) (hb : b < 16) : Rect S16x64x1024 := Rect.unit (s := S16x64x1024) ![b, 0, 0] S1x64x1024.size (inbH b hb)

/-- The rectangle of batch entry `b` in the output block. -/
abbrev slabO (b : ℕ) (hb : b < 16) : Rect S16x1x64x1024 := Rect.unit (s := S16x1x64x1024) ![b, 0, 0, 0] S1x1x64x1024.size (inbO b hb)

/-- Batch entry `b` of a stack of sixteen input matrices. -/
def entryX (b : ℕ) (hb : b < 16) (v : FVec F S16x32x1024 .f32) : FVec F S32x1024 .f32 :=
  shapeCast S32x1024 (extractStridedSlice S1x32x1024 ![b, 0, 0] v (slicesX b hb)) shapeCasts_S1x32x1024_S32x1024

/-- Batch entry `b` of a stack of sixteen hidden matrices. -/
def entryH (b : ℕ) (hb : b < 16) (v : FVec F S16x64x1024 .f32) : FVec F S64x1024 .f32 :=
  shapeCast S64x1024 (extractStridedSlice S1x64x1024 ![b, 0, 0] v (slicesH b hb)) shapeCasts_S1x64x1024_S64x1024

/-- A weight matrix applied to an input matrix. -/
def mmX (w : Vec F S1x1x256x32 .f32) (v : FVec F S32x1024 .f32) : FVec F S256x1024 .f32 :=
  matmul dot_S256x32_S32x1024_S256x1024_1_0_0_1_n_n none (shapeCast S256x32 w shapeCasts_S1x1x256x32_S256x32) v
    (constant S256x1024 .f32 0x00000000#32)

/-- A weight matrix applied to a hidden matrix. -/
def mmH (w : Vec F S1x1x256x64 .f32) (v : FVec F S64x1024 .f32) : FVec F S256x1024 .f32 :=
  matmul dot_S256x64_S64x1024_S256x1024_1_0_0_1_n_n none (shapeCast S256x64 w shapeCasts_S1x1x256x64_S256x64) v
    (constant S256x1024 .f32 0x00000000#32)

/-- The input convolution of batch entry `b`, all four gates stacked. -/
def convX (p : Loads F) (b : ℕ) (hb : b < 16) : FVec F S256x1024 .f32 :=
  addf (addf (addf (mmX p.wx0 (entryX b hb (k0_pay9 p.x))) (mmX p.wx1 (entryX b hb (k0_pay10 p.lt p.x))))
    (mmX p.wx2 (entryX b hb (k0_pay11 p.lt p.x))))
    (broadcastTo S256x1024 (k0_pay21 p.bx) broadcasts_S256x1_S256x1024)

/-- The first Chebyshev term of the hidden state. -/
def hid1 (p : Loads F) (h : Vec F S16x64x1024 .f32) : FVec F S16x64x1024 .f32 :=
  k0_pay19 (k0_pay14 p.lt h) (k0_pay17 p.lt h)

/-- The second Chebyshev term of the hidden state. -/
def hid2 (p : Loads F) (h : Vec F S16x64x1024 .f32) : FVec F S16x64x1024 .f32 :=
  k0_pay20 (k0_pay15 p.lt h) (k0_pay16 h) (k0_pay18 p.lt h)

/-- The first two terms of the hidden convolution of batch entry `b`. -/
def convH01 (p : Loads F) (h : Vec F S16x64x1024 .f32) (b : ℕ) (hb : b < 16) : FVec F S256x1024 .f32 :=
  addf (mmH p.wh0 (entryH b hb h)) (mmH p.wh1 (entryH b hb (hid1 p h)))

/-- The new cell state of batch entry `b`, whose old cell state is `cb`. -/
def newC (p : Loads F) (h : Vec F S16x64x1024 .f32) (b : ℕ) (hb : b < 16) (cb : Vec F S1x64x1024 .f32) :
    FVec F S64x1024 .f32 :=
  k0_pay35 (k0_pay3 p.one) (k0_pay22 p.bh) (k0_pay23 p.wc0) (k0_pay24 p.wc1) (k0_pay26 p.bg0) (k0_pay27 p.bg1)
    (k0_pay28 p.bg2) (convX p b hb) (convH01 p h b hb) (k0_pay32 p.wh2) (entryH b hb (hid2 p h)) cb

/-- The new hidden state of batch entry `b`, whose old cell state is `cb`. -/
def newH (p : Loads F) (h : Vec F S16x64x1024 .f32) (b : ℕ) (hb : b < 16) (cb : Vec F S1x64x1024 .f32) :
    FVec F S64x1024 .f32 :=
  k0_pay36 (k0_pay3 p.one) (k0_pay22 p.bh) (k0_pay23 p.wc0) (k0_pay24 p.wc1) (k0_pay25 p.wc2) (k0_pay26 p.bg0)
    (k0_pay27 p.bg1) (k0_pay28 p.bg2) (k0_pay29 p.bg3) (convX p b hb) (convH01 p h b hb) (k0_pay32 p.wh2)
    (entryH b hb (hid2 p h)) cb

/-- Pieces of a state buffer, the last store first. -/
abbrev Slabs (F : FTy → Type) := List (View.Piece (Elt F) S16x64x1024 .f32)

/-- How the old cell state of batch entry `b` is loaded, given the pieces stored before. -/
abbrev Loader (F : FTy → Type) := Slabs F → (b : ℕ) → b < 16 → Vec F S1x64x1024 .f32

/-- The pieces of the cell scratch after the first `n` batch entries: their slabs over `init`. -/
def piecesC (p : Loads F) (h : Vec F S16x64x1024 .f32) (ld : Loader F) (init : Slabs F) :
    (n : ℕ) → n ≤ 16 → Slabs F
  | 0, _ => init
  | n + 1, hn =>
    ⟨slab n hn, shapeCast S1x64x1024 (newC p h n hn (ld (piecesC p h ld init n (Nat.le_of_succ_le hn)) n hn))
      shapeCasts_S64x1024_S1x64x1024⟩ :: piecesC p h ld init n (Nat.le_of_succ_le hn)

/-- The pieces of the hidden scratch after the first `n` batch entries: their slabs over `inith`. -/
def piecesH (p : Loads F) (h : Vec F S16x64x1024 .f32) (ld : Loader F) (init inith : Slabs F) :
    (n : ℕ) → n ≤ 16 → Slabs F
  | 0, _ => inith
  | n + 1, hn =>
    ⟨slab n hn, shapeCast S1x64x1024 (newH p h n hn (ld (piecesC p h ld init n (Nat.le_of_succ_le hn)) n hn))
      shapeCasts_S64x1024_S1x64x1024⟩ :: piecesH p h ld init inith n (Nat.le_of_succ_le hn)

/-- The pieces of the output block after the first `n` batch entries. -/
def piecesO (p : Loads F) (h : Vec F S16x64x1024 .f32) (ld : Loader F) (init : Slabs F) :
    (n : ℕ) → n ≤ 16 → List (View.Piece (Elt F) S16x1x64x1024 .f32)
  | 0, _ => []
  | n + 1, hn =>
    ⟨slabO n hn, shapeCast S1x1x64x1024 (newH p h n hn (ld (piecesC p h ld init n (Nat.le_of_succ_le hn)) n hn))
      shapeCasts_S64x1024_S1x1x64x1024⟩ :: piecesO p h ld init n (Nat.le_of_succ_le hn)

/-- The loads of a grid point whose staging buffers hold `x0 … x8`. -/
def loadsOf
    (arg1 : Memref sig .tc .vmem S1x16x32x1024 .f32) (harg1 : arg1.IsWhole)
    (arg2 : Memref sig .tc .vmem S1024x1024 .f32) (harg2 : arg2.IsWhole)
    (arg3 : Memref sig .tc .vmem S1x3x256x32 .f32) (harg3 : arg3.IsWhole)
    (arg4 : Memref sig .tc .vmem S1x3x256x64 .f32) (harg4 : arg4.IsWhole)
    (arg5 : Memref sig .tc .vmem S1x256x1 .f32) (harg5 : arg5.IsWhole)
    (arg6 : Memref sig .tc .vmem S1x256x1 .f32) (harg6 : arg6.IsWhole)
    (arg7 : Memref sig .tc .vmem S1x256x1 .f32) (harg7 : arg7.IsWhole)
    (arg8 : Memref sig .tc .vmem S1x3x64x1 .f32) (harg8 : arg8.IsWhole)
    (arg9 : Memref sig .tc .vmem S8x128 .f32) (harg9 : arg9.IsWhole)
    (x0 : Vec F S1x16x32x1024 .f32) (x1 : Vec F S1024x1024 .f32) (x2 : Vec F S1x3x256x32 .f32)
    (x3 : Vec F S1x3x256x64 .f32) (x4 : Vec F S1x256x1 .f32) (x5 : Vec F S1x256x1 .f32)
    (x6 : Vec F S1x256x1 .f32) (x7 : Vec F S1x3x64x1 .f32) (x8 : Vec F S8x128 .f32) : Loads F where
  lt := View.readAt (Elt F) arg2.view (Rect.unit (s := S1024x1024) ![0, 0] S1024x1024.size inb_S1024x1024_S1024x1024_0_0).toLoadRect (harg2.unread x1)
  x := View.readAt (Elt F) arg1.view (Rect.unit (s := S1x16x32x1024) ![0, 0, 0, 0] S1x16x32x1024.size inb_S1x16x32x1024_S1x16x32x1024_0_0_0_0).toLoadRect (harg1.unread x0)
  wx0 := View.readAt (Elt F) arg3.view (Rect.unit (s := S1x3x256x32) ![0, 0, 0, 0] S1x1x256x32.size inb_S1x3x256x32_S1x1x256x32_0_0_0_0).toLoadRect (harg3.unread x2)
  wx1 := View.readAt (Elt F) arg3.view (Rect.unit (s := S1x3x256x32) ![0, 1, 0, 0] S1x1x256x32.size inb_S1x3x256x32_S1x1x256x32_0_1_0_0).toLoadRect (harg3.unread x2)
  wx2 := View.readAt (Elt F) arg3.view (Rect.unit (s := S1x3x256x32) ![0, 2, 0, 0] S1x1x256x32.size inb_S1x3x256x32_S1x1x256x32_0_2_0_0).toLoadRect (harg3.unread x2)
  wh0 := View.readAt (Elt F) arg4.view (Rect.unit (s := S1x3x256x64) ![0, 0, 0, 0] S1x1x256x64.size inb_S1x3x256x64_S1x1x256x64_0_0_0_0).toLoadRect (harg4.unread x3)
  wh1 := View.readAt (Elt F) arg4.view (Rect.unit (s := S1x3x256x64) ![0, 1, 0, 0] S1x1x256x64.size inb_S1x3x256x64_S1x1x256x64_0_1_0_0).toLoadRect (harg4.unread x3)
  wh2 := View.readAt (Elt F) arg4.view (Rect.unit (s := S1x3x256x64) ![0, 2, 0, 0] S1x1x256x64.size inb_S1x3x256x64_S1x1x256x64_0_2_0_0).toLoadRect (harg4.unread x3)
  bx := View.readAt (Elt F) arg5.view (Rect.unit (s := S1x256x1) ![0, 0, 0] S1x256x1.size inb_S1x256x1_S1x256x1_0_0_0).toLoadRect (harg5.unread x4)
  bh := View.readAt (Elt F) arg6.view (Rect.unit (s := S1x256x1) ![0, 0, 0] S1x256x1.size inb_S1x256x1_S1x256x1_0_0_0).toLoadRect (harg6.unread x5)
  wc0 := View.readAt (Elt F) arg8.view (Rect.unit (s := S1x3x64x1) ![0, 0, 0, 0] S1x1x64x1.size inb_S1x3x64x1_S1x1x64x1_0_0_0_0).toLoadRect (harg8.unread x7)
  wc1 := View.readAt (Elt F) arg8.view (Rect.unit (s := S1x3x64x1) ![0, 1, 0, 0] S1x1x64x1.size inb_S1x3x64x1_S1x1x64x1_0_1_0_0).toLoadRect (harg8.unread x7)
  wc2 := View.readAt (Elt F) arg8.view (Rect.unit (s := S1x3x64x1) ![0, 2, 0, 0] S1x1x64x1.size inb_S1x3x64x1_S1x1x64x1_0_2_0_0).toLoadRect (harg8.unread x7)
  bg0 := View.readAt (Elt F) arg7.view (Rect.unit (s := S1x256x1) ![0, 0, 0] S1x64x1.size inb_S1x256x1_S1x64x1_0_0_0).toLoadRect (harg7.unread x6)
  bg1 := View.readAt (Elt F) arg7.view (Rect.unit (s := S1x256x1) ![0, 64, 0] S1x64x1.size inb_S1x256x1_S1x64x1_0_64_0).toLoadRect (harg7.unread x6)
  bg2 := View.readAt (Elt F) arg7.view (Rect.unit (s := S1x256x1) ![0, 128, 0] S1x64x1.size inb_S1x256x1_S1x64x1_0_128_0).toLoadRect (harg7.unread x6)
  bg3 := View.readAt (Elt F) arg7.view (Rect.unit (s := S1x256x1) ![0, 192, 0] S1x64x1.size inb_S1x256x1_S1x64x1_0_192_0).toLoadRect (harg7.unread x6)
  one := View.readAt (Elt F) arg9.view (Rect.unit (s := S8x128) ![0, 0] S1x1.size inb_S8x128_S1x1_0_0).toLoadRect (harg9.unread x8)

/-- Loading from a buffer no store has reached: what it held when the point began. -/
def ldOld (arg14 : Memref sig .tc .vmem S16x64x1024 .f32) (harg14 : arg14.IsWhole) (xs1 : Vec F S16x64x1024 .f32) :
    Loader F :=
  fun _ b hb => View.readAt (Elt F) arg14.view (slab b hb).toLoadRect (harg14.unread xs1)

/-- Loading from a buffer through the pieces stored into it. -/
def ldCov (arg14 : Memref sig .tc .vmem S16x64x1024 .f32) : Loader F :=
  fun L b hb => arg14.view.readCov L (slab b hb).toLoadRect

/-- The whole hidden state a later point loads. -/
def wholeOld (arg13 : Memref sig .tc .vmem S16x64x1024 .f32) (harg13 : arg13.IsWhole) (xs0 : Vec F S16x64x1024 .f32) :
    Vec F S16x64x1024 .f32 :=
  View.readAt (Elt F) arg13.view
    (Rect.unit (s := S16x64x1024) ![0, 0, 0] S16x64x1024.size inb_S16x64x1024_S16x64x1024_0_0_0).toLoadRect (harg13.unread xs0)

/-- The store of the whole initial hidden state at the first point. -/
def initH (arg10 : Memref sig .tc .vmem S16x64x1024 .f32) (harg10 : arg10.IsWhole) (x9 : Vec F S16x64x1024 .f32) :
    Slabs F :=
  [⟨Rect.unit (s := S16x64x1024) ![0, 0, 0] S16x64x1024.size inb_S16x64x1024_S16x64x1024_0_0_0, k0_pay4 (wholeOld arg10 harg10 x9)⟩]

/-- The store of the whole initial cell state at the first point. -/
def initC (arg11 : Memref sig .tc .vmem S16x64x1024 .f32) (harg11 : arg11.IsWhole) (x10 : Vec F S16x64x1024 .f32) :
    Slabs F :=
  [⟨Rect.unit (s := S16x64x1024) ![0, 0, 0] S16x64x1024.size inb_S16x64x1024_S16x64x1024_0_0_0, k0_pay5 (wholeOld arg11 harg11 x10)⟩]

/-- The whole hidden state the first point loads back. -/
def wholeCov (arg13 : Memref sig .tc .vmem S16x64x1024 .f32) (L : Slabs F) : Vec F S16x64x1024 .f32 :=
  arg13.view.readCov L (Rect.unit (s := S16x64x1024) ![0, 0, 0] S16x64x1024.size inb_S16x64x1024_S16x64x1024_0_0_0).toLoadRect

section Cases

variable (c : Dev nD) (i : grid0.Coords)
    (arg1 : Memref sig .tc .vmem S1x16x32x1024 .f32) (harg1 : arg1.IsWhole)
    (arg2 : Memref sig .tc .vmem S1024x1024 .f32) (harg2 : arg2.IsWhole)
    (arg3 : Memref sig .tc .vmem S1x3x256x32 .f32) (harg3 : arg3.IsWhole)
    (arg4 : Memref sig .tc .vmem S1x3x256x64 .f32) (harg4 : arg4.IsWhole)
    (arg5 : Memref sig .tc .vmem S1x256x1 .f32) (harg5 : arg5.IsWhole)
    (arg6 : Memref sig .tc .vmem S1x256x1 .f32) (harg6 : arg6.IsWhole)
    (arg7 : Memref sig .tc .vmem S1x256x1 .f32) (harg7 : arg7.IsWhole)
    (arg8 : Memref sig .tc .vmem S1x3x64x1 .f32) (harg8 : arg8.IsWhole)
    (arg9 : Memref sig .tc .vmem S8x128 .f32) (harg9 : arg9.IsWhole)
    (arg10 : Memref sig .tc .vmem S16x64x1024 .f32) (harg10 : arg10.IsWhole)
    (arg11 : Memref sig .tc .vmem S16x64x1024 .f32) (harg11 : arg11.IsWhole)
    (arg12 : Memref sig .tc .vmem S16x1x64x1024 .f32) (harg12 : arg12.IsWhole)
    (arg13 : Memref sig .tc .vmem S16x64x1024 .f32) (harg13 : arg13.IsWhole)
    (arg14 : Memref sig .tc .vmem S16x64x1024 .f32) (harg14 : arg14.IsWhole)
    (x0 : Vec F S1x16x32x1024 .f32) (x1 : Vec F S1024x1024 .f32) (x2 : Vec F S1x3x256x32 .f32)
    (x3 : Vec F S1x3x256x64 .f32) (x4 : Vec F S1x256x1 .f32) (x5 : Vec F S1x256x1 .f32)
    (x6 : Vec F S1x256x1 .f32) (x7 : Vec F S1x3x64x1 .f32) (x8 : Vec F S8x128 .f32)
    (x9 : Vec F S16x64x1024 .f32) (x10 : Vec F S16x64x1024 .f32)
    (xs0 xs1 : Vec F S16x64x1024 .f32)

/-- A later point: the cell scratch's pieces. -/
theorem later_C_pieces (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1).2.2.1
      = piecesC (loadsOf arg1 harg1 arg2 harg2 arg3 harg3 arg4 harg4 arg5 harg5 arg6 harg6 arg7 harg7 arg8 harg8 arg9 harg9 x0 x1 x2 x3 x4 x5 x6 x7 x8)
          (wholeOld arg13 harg13 xs0) (ldOld arg14 harg14 xs1) [] 16 le_rfl := by sl_kernel_rfl

/-- A later point: the hidden scratch's pieces. -/
theorem later_H_pieces (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1).2.1
      = piecesH (loadsOf arg1 harg1 arg2 harg2 arg3 harg3 arg4 harg4 arg5 harg5 arg6 harg6 arg7 harg7 arg8 harg8 arg9 harg9 x0 x1 x2 x3 x4 x5 x6 x7 x8)
          (wholeOld arg13 harg13 xs0) (ldOld arg14 harg14 xs1) [] [] 16 le_rfl := by sl_kernel_rfl

/-- A later point: the output block's pieces. -/
theorem later_O_pieces (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1).1
      = piecesO (loadsOf arg1 harg1 arg2 harg2 arg3 harg3 arg4 harg4 arg5 harg5 arg6 harg6 arg7 harg7 arg8 harg8 arg9 harg9 x0 x1 x2 x3 x4 x5 x6 x7 x8)
          (wholeOld arg13 harg13 xs0) (ldOld arg14 harg14 xs1) [] 16 le_rfl := by sl_kernel_rfl

/-- The first point: the cell scratch's pieces. -/
theorem first_C_pieces (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.2.1
      = piecesC (loadsOf arg1 harg1 arg2 harg2 arg3 harg3 arg4 harg4 arg5 harg5 arg6 harg6 arg7 harg7 arg8 harg8 arg9 harg9 x0 x1 x2 x3 x4 x5 x6 x7 x8)
          (wholeCov arg13 (initH arg10 harg10 x9)) (ldCov arg14) (initC arg11 harg11 x10) 16 le_rfl := by sl_kernel_rfl

/-- The first point: the hidden scratch's pieces. -/
theorem first_H_pieces (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).2.1
      = piecesH (loadsOf arg1 harg1 arg2 harg2 arg3 harg3 arg4 harg4 arg5 harg5 arg6 harg6 arg7 harg7 arg8 harg8 arg9 harg9 x0 x1 x2 x3 x4 x5 x6 x7 x8)
          (wholeCov arg13 (initH arg10 harg10 x9)) (ldCov arg14) (initC arg11 harg11 x10)
          (initH arg10 harg10 x9) 16 le_rfl := by sl_kernel_rfl

/-- The first point: the output block's pieces. -/
theorem first_O_pieces (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10).1
      = piecesO (loadsOf arg1 harg1 arg2 harg2 arg3 harg3 arg4 harg4 arg5 harg5 arg6 harg6 arg7 harg7 arg8 harg8 arg9 harg9 x0 x1 x2 x3 x4 x5 x6 x7 x8)
          (wholeCov arg13 (initH arg10 harg10 x9)) (ldCov arg14) (initC arg11 harg11 x10) 16 le_rfl := by sl_kernel_rfl

end Cases

end Cert.Blocks
-- ==== Proof.Spec.lean ====
module

public import Idealize.ShloMosaic.PureOps.Ideal
public import Idealize.ShloMosaic.Lib.Pointwise

/-! # The recurrence, coordinate by coordinate

One step of the graph-convolutional LSTM over extended reals: the Chebyshev terms of a signal on the
nodes, the gates, the new cell state and the new hidden state; then the states after any number of
steps.  A signal is written `batch → node → feature`. -/

@[expose] public section

noncomputable section

namespace Cert.Spec

open Idealize Idealize.ShloMosaic

/-- The number two, as the single-precision constant denotes it. -/
def two : EReal := Ideal.ofBits .f32 0x40000000#32

/-- The logistic function on extended reals. -/
def sig (x : EReal) : EReal := Ideal.logistic x

/-- A state: batch entry, node, feature. -/
abbrev State := Fin 16 → Fin 1024 → Fin 64 → EReal

/-- The first Chebyshev term of a signal on the nodes: the operator applied to it. -/
def lap1 (L : Fin 1024 → Fin 1024 → EReal) (v : Fin 1024 → EReal) (n : Fin 1024) : EReal :=
  ∑ m, v m * L n m

/-- The second Chebyshev term of a signal on the nodes. -/
def lap2 (L : Fin 1024 → Fin 1024 → EReal) (v : Fin 1024 → EReal) (n : Fin 1024) : EReal :=
  two * lap1 L (lap1 L v) n - v n

/-- The Chebyshev convolution of a signal with `d` features, at node `n` and output feature `o`. -/
def cheb {d : ℕ} (L : Fin 1024 → Fin 1024 → EReal) (x : Fin 1024 → Fin d → EReal)
    (w : Fin 3 → Fin d → Fin 64 → EReal) (β : Fin 64 → EReal) (n : Fin 1024) (o : Fin 64) : EReal :=
  ∑ i, x n i * w 0 i o + ∑ i, lap1 L (fun m => x m i) n * w 1 i o + ∑ i, lap2 L (fun m => x m i) n * w 2 i o + β o

/-- What one step reads: the operator, the input and the weights of the four gates. -/
structure Inputs where
  L : Fin 1024 → Fin 1024 → EReal
  x : Fin 16 → Fin 1024 → Fin 32 → EReal
  wx : Fin 4 → Fin 3 → Fin 32 → Fin 64 → EReal
  bx : Fin 4 → Fin 64 → EReal
  wh : Fin 4 → Fin 3 → Fin 64 → Fin 64 → EReal
  bh : Fin 4 → Fin 64 → EReal
  wc : Fin 3 → Fin 64 → EReal
  bg : Fin 4 → Fin 64 → EReal

/-- The two convolutions of gate `g`, added. -/
def pre (p : Inputs) (h : State) (g : Fin 4) : State := fun b n o =>
  cheb p.L (p.x b) (p.wx g) (p.bx g) n o + cheb p.L (h b) (p.wh g) (p.bh g) n o

/-- The new cell state. -/
def newC (p : Inputs) (h c : State) : State := fun b n o =>
  sig (pre p h 1 b n o + p.wc 1 o * c b n o + p.bg 1 o) * c b n o
    + sig (pre p h 0 b n o + p.wc 0 o * c b n o + p.bg 0 o) * Ideal.tanh (pre p h 2 b n o + p.bg 2 o)

/-- The new hidden state. -/
def newH (p : Inputs) (h c : State) : State := fun b n o =>
  sig (pre p h 3 b n o + p.wc 2 o * newC p h c b n o + p.bg 3 o) * Ideal.tanh (newC p h c b n o)

/-- The hidden and cell states after `t` steps, step `s` reading `p s`. -/
def states (p : ℕ → Inputs) (h0 c0 : State) : ℕ → State × State
  | 0 => (h0, c0)
  | t + 1 => (newH (p t) (states p h0 c0 t).1 (states p h0 c0 t).2, newC (p t) (states p h0 c0 t).1 (states p h0 c0 t).2)

/-- The argument arrays, by their coordinates. -/
structure Args where
  X : Fin 16 → Fin 12 → Fin 1024 → Fin 32 → EReal
  L : Fin 1024 → Fin 1024 → EReal
  h0 : State
  c0 : State
  wx : Fin 12 → Fin 4 → Fin 3 → Fin 32 → Fin 64 → EReal
  bx : Fin 12 → Fin 4 → Fin 64 → EReal
  wh : Fin 12 → Fin 4 → Fin 3 → Fin 64 → Fin 64 → EReal
  bh : Fin 12 → Fin 4 → Fin 64 → EReal
  wc : Fin 12 → Fin 3 → Fin 64 → EReal
  bg : Fin 12 → Fin 4 → Fin 64 → EReal

/-- What step `t` reads of the arguments. -/
def Args.at (a : Args) (t : Fin 12) : Inputs where
  L := a.L
  x b n i := a.X b t n i
  wx := a.wx t
  bx := a.bx t
  wh := a.wh t
  bh := a.bh t
  wc := a.wc t
  bg := a.bg t

/-- The hidden and cell states of the recurrence over the arguments, after `t` steps. -/
def Args.states (a : Args) (t : ℕ) : State × State :=
  Spec.states (fun s => a.at (Fin.ofNat 12 s)) a.h0 a.c0 t

/-- One more step of the recurrence. -/
theorem Args.states_succ (a : Args) (t : Fin 12) :
    a.states (t.val + 1) = (newH (a.at t) (a.states t.val).1 (a.states t.val).2,
      newC (a.at t) (a.states t.val).1 (a.states t.val).2) := by
  have e : Fin.ofNat 12 t.val = t := Fin.ext (Nat.mod_eq_of_lt t.isLt)
  show (newH (a.at (Fin.ofNat 12 t.val)) _ _, newC (a.at (Fin.ofNat 12 t.val)) _ _) = _
  rw [e]
  rfl

end Cert.Spec
-- ==== Proof.Batch.lean ====
module

public import proofs.«01_k».proof.Proof.Pieces
public import proofs.«01_k».proof.Proof.Spec

/-! # One batch entry of the kernel, read at a coordinate

The vector expressions one grid point computes for a batch entry, read at a feature and a node: they
are the recurrence of `Spec`, on the arrays the point loads. -/

@[expose] public section

set_option maxRecDepth 16384

noncomputable section

namespace Cert.Blocks

open Idealize Idealize.ShloMosaic Cert.KernelIdeal Cert.KernelIdeal.Gen

/-- The row of gate `g` and feature `o` in an array with the four gates stacked. -/
def row (g : Fin 4) (o : Fin 64) : Fin 256 := ⟨64 * g.val + o.val, by omega⟩

theorem row_zero (o : Fin 64) : row 0 o = ⟨o.val, by omega⟩ := Fin.ext (by simp [row])

/-- A stack of sixteen feature-by-node matrices as a state. -/
def stateOf (v : Vec Ideal S16x64x1024 .f32) : Spec.State := fun b n o => v (ix3 b o n)

/-- The arrays a point loads, as the inputs of a step. -/
def inputsOf (p : Loads Ideal) : Spec.Inputs where
  L n m := p.lt (ix2 m n)
  x b n i := p.x (ix4 0 b i n)
  wx g k i o := (![p.wx0, p.wx1, p.wx2] k) (ix4 0 0 (row g o) i)
  bx g o := p.bx (ix3 0 (row g o) 0)
  wh g k i o := (![p.wh0, p.wh1, p.wh2] k) (ix4 0 0 (row g o) i)
  bh g o := p.bh (ix3 0 (row g o) 0)
  wc k o := (![p.wc0, p.wc1, p.wc2] k) (ix4 0 0 o 0)
  bg g o := (![p.bg0, p.bg1, p.bg2, p.bg3] g) (ix3 0 o 0)

variable (p : Loads Ideal)

/-- The first Chebyshev term of the input. -/
theorem in1_apply (b : Fin 16) (i : Fin 32) (n : Fin 1024) :
    k0_pay10 p.lt p.x (ix3 b i n) = Spec.lap1 (inputsOf p).L (fun m => (inputsOf p).x b m i) n := by
  unfold k0_pay10 k0_pay8 k0_pay7 k0_pay6
  pointwise [Spec.lap1, inputsOf]

/-- The second Chebyshev term of the input. -/
theorem in2_apply (b : Fin 16) (i : Fin 32) (n : Fin 1024) :
    k0_pay11 p.lt p.x (ix3 b i n) = Spec.lap2 (inputsOf p).L (fun m => (inputsOf p).x b m i) n := by
  unfold k0_pay11 k0_pay8 k0_pay7 k0_pay6
  pointwise [Spec.lap2, Spec.lap1, Spec.two, inputsOf]

variable (h : Vec Ideal S16x64x1024 .f32)

/-- The first Chebyshev term of the hidden state, its two halves put together. -/
theorem hid1_apply (b : Fin 16) (i : Fin 64) (n : Fin 1024) :
    hid1 p h (ix3 b i n) = Spec.lap1 (inputsOf p).L (fun m => stateOf h b m i) n := by
  unfold hid1 k0_pay19 k0_pay14 k0_pay17 k0_pay13 k0_pay16 k0_pay12 k0_pay6
  pointwise [Spec.lap1, inputsOf, stateOf]
  split
  · rfl
  · rename_i hlt
    have e1 : ∀ hh, (⟨(512 + (b.val * 64 + i.val - 512)) / 64, hh⟩ : Fin 16) = b := fun _ => Fin.ext (by dsimp only; omega)
    have e2 : ∀ hh, (⟨(512 + (b.val * 64 + i.val - 512)) % 64, hh⟩ : Fin 64) = i := fun _ => Fin.ext (by dsimp only; omega)
    simp only [e1, e2]

/-- The second Chebyshev term of the hidden state, its two halves put together. -/
theorem hid2_apply (b : Fin 16) (i : Fin 64) (n : Fin 1024) :
    hid2 p h (ix3 b i n) = Spec.lap2 (inputsOf p).L (fun m => stateOf h b m i) n := by
  unfold hid2 k0_pay20 k0_pay15 k0_pay18 k0_pay14 k0_pay17 k0_pay13 k0_pay16 k0_pay12 k0_pay6
  pointwise [Spec.lap2, Spec.lap1, Spec.two, inputsOf, stateOf]
  split
  · rfl
  · rename_i hlt
    have e1 : ∀ hh, (⟨(512 + (b.val * 64 + i.val - 512)) / 64, hh⟩ : Fin 16) = b := fun _ => Fin.ext (by dsimp only; omega)
    have e2 : ∀ hh, (⟨(512 + (b.val * 64 + i.val - 512)) % 64, hh⟩ : Fin 64) = i := fun _ => Fin.ext (by dsimp only; omega)
    simp only [e1, e2]

/-- Batch entry `b` of a stack of input matrices, at a coordinate. -/
theorem entryX_apply (b : Fin 16) (v : FVec Ideal S16x32x1024 .f32) (i : Fin 32) (n : Fin 1024) :
    entryX b.val b.isLt v (ix2 i n) = v (ix3 b i n) := by
  unfold entryX
  pointwise

/-- Batch entry `b` of a stack of hidden matrices, at a coordinate. -/
theorem entryH_apply (b : Fin 16) (v : FVec Ideal S16x64x1024 .f32) (i : Fin 64) (n : Fin 1024) :
    entryH b.val b.isLt v (ix2 i n) = v (ix3 b i n) := by
  unfold entryH
  pointwise

/-- A weight matrix applied to an input matrix, at a coordinate. -/
theorem mmX_apply (w : Vec Ideal S1x1x256x32 .f32) (v : FVec Ideal S32x1024 .f32) (r : Fin 256) (n : Fin 1024) :
    mmX w v (ix2 r n) = ∑ i, v (ix2 i n) * w (ix4 0 0 r i) := by
  unfold mmX
  pointwise
  exact Finset.sum_congr rfl fun i _ => mul_comm _ _

/-- A weight matrix applied to a hidden matrix, at a coordinate. -/
theorem mmH_apply (w : Vec Ideal S1x1x256x64 .f32) (v : FVec Ideal S64x1024 .f32) (r : Fin 256) (n : Fin 1024) :
    mmH w v (ix2 r n) = ∑ i, v (ix2 i n) * w (ix4 0 0 r i) := by
  unfold mmH
  pointwise
  exact Finset.sum_congr rfl fun i _ => mul_comm _ _

/-- The input convolution of a batch entry is the Chebyshev convolution of its input. -/
theorem convX_apply (b : Fin 16) (g : Fin 4) (o : Fin 64) (n : Fin 1024) :
    convX p b.val b.isLt (ix2 (row g o) n)
      = Spec.cheb (inputsOf p).L ((inputsOf p).x b) ((inputsOf p).wx g) ((inputsOf p).bx g) n o := by
  unfold convX k0_pay9 k0_pay21
  pointwise
  simp only [mmX_apply, entryX_apply, in1_apply, in2_apply]
  pointwise
  rfl

/-- The hidden convolution of a batch entry, whose bias and third term are added separately, is the
    Chebyshev convolution of its hidden state. -/
theorem convH_apply (b : Fin 16) (g : Fin 4) (o : Fin 64) (n : Fin 1024) :
    convH01 p h b.val b.isLt (ix2 (row g o) n) + mmH p.wh2 (entryH b.val b.isLt (hid2 p h)) (ix2 (row g o) n)
        + p.bh (ix3 0 (row g o) 0)
      = Spec.cheb (inputsOf p).L (stateOf h b) ((inputsOf p).wh g) ((inputsOf p).bh g) n o := by
  unfold convH01
  pointwise
  simp only [mmH_apply, entryH_apply, hid1_apply, hid2_apply]
  rfl

/-- The sum of the two convolutions of batch entry `b`, the four gates stacked. -/
def preact (b : ℕ) (hb : b < 16) : FVec Ideal S256x1024 .f32 :=
  k0_pay34 (k0_pay3 p.one) (k0_pay22 p.bh) (convX p b hb) (convH01 p h b hb) (k0_pay32 p.wh2) (entryH b hb (hid2 p h))

/-- That sum at a coordinate, the constant one being one. -/
theorem preact_apply (hone : p.one (ix2 0 0) = 1) (b : Fin 16) (g : Fin 4) (o : Fin 64) (n : Fin 1024) :
    preact p h b.val b.isLt (ix2 (row g o) n) = Spec.pre (inputsOf p) (stateOf h) g b n o := by
  unfold Spec.pre
  rw [← convX_apply, ← convH_apply]
  unfold preact k0_pay34 k0_pay3 k0_pay22 k0_pay32 mmH
  pointwise [hone, one_mul]

variable (c : Vec Ideal S16x64x1024 .f32)

/-- The new cell state of batch entry `b` is the recurrence's. -/
theorem newC_apply (hone : p.one (ix2 0 0) = 1) (b : Fin 16) (cb : Vec Ideal S1x64x1024 .f32)
    (hcb : ∀ o n, cb (ix3 0 o n) = c (ix3 b o n)) (o : Fin 64) (n : Fin 1024) :
    newC p h b.val b.isLt cb (ix2 o n) = Spec.newC (inputsOf p) (stateOf h) (stateOf c) b n o := by
  have e := fun g => preact_apply p h hone b g o n
  unfold Spec.newC
  simp only [← e]
  unfold newC k0_pay35 k0_pay23 k0_pay24 k0_pay26 k0_pay27 k0_pay28
  rw [← preact]
  pointwise [hcb]
  rw [row_zero]
  rfl

/-- The new hidden state of batch entry `b` is the recurrence's. -/
theorem newH_apply (hone : p.one (ix2 0 0) = 1) (b : Fin 16) (cb : Vec Ideal S1x64x1024 .f32)
    (hcb : ∀ o n, cb (ix3 0 o n) = c (ix3 b o n)) (o : Fin 64) (n : Fin 1024) :
    newH p h b.val b.isLt cb (ix2 o n) = Spec.newH (inputsOf p) (stateOf h) (stateOf c) b n o := by
  unfold Spec.newH
  rw [← newC_apply p h c hone b cb hcb, ← preact_apply p h hone b 3 o n]
  unfold newH k0_pay36
  rw [← preact, ← newC]
  unfold k0_pay25 k0_pay29
  pointwise
  rfl

end Cert.Blocks
-- ==== Proof.Stored.lean ====
module

public import proofs.«01_k».proof.Proof.Batch
public import Idealize.ShloMosaic.Lib.WholeRead

/-! # What the pieces of one grid point hold

The slabs stored for the batch entries `0, …, n - 1`, read back at a coordinate: below `n` the new
state of the recurrence, from `n` on what the buffer held before. -/

@[expose] public section

set_option maxRecDepth 16384

noncomputable section

namespace Cert.Blocks

open Idealize Idealize.ShloMosaic Cert.KernelIdeal Cert.KernelIdeal.Gen

variable (p : Loads Ideal) (h c : Vec Ideal S16x64x1024 .f32) (ld : Loader Ideal) (init inith : Slabs Ideal)

/-- Every load of a batch entry's old cell state finds that entry of `c`. -/
def Finds : Prop :=
  ∀ (n : ℕ) (hn : n < 16) (o : Fin 64) (j : Fin 1024),
    ld (piecesC p h ld init n (Nat.le_of_succ_le hn)) n hn (ix3 0 o j) = c (ix3 ⟨n, hn⟩ o j)

theorem slab_emb (b : Fin 16) (o : Fin 64) (j : Fin 1024) :
    (slab b.val b.isLt).emb (ix3 0 o j) = ix3 b o j := by
  refine Rect.emb_eq_of_coords _ _ _ fun a => ?_
  match a with
  | ⟨0, _⟩ => show b.val = b.val + 1 * 0; omega
  | ⟨1, _⟩ => show o.val = 0 + 1 * o.val; omega
  | ⟨2, _⟩ => show j.val = 0 + 1 * j.val; omega

theorem slabO_emb (b : Fin 16) (o : Fin 64) (j : Fin 1024) :
    (slabO b.val b.isLt).emb (ix4 0 0 o j) = ix4 b 0 o j := by
  refine Rect.emb_eq_of_coords _ _ _ fun a => ?_
  match a with
  | ⟨0, _⟩ => show b.val = b.val + 1 * 0; omega
  | ⟨1, _⟩ => show 0 = 0 + 1 * 0; omega
  | ⟨2, _⟩ => show o.val = 0 + 1 * o.val; omega
  | ⟨3, _⟩ => show j.val = 0 + 1 * j.val; omega

section Read

variable {sig' : RefSig} {κ' : Kind} {sp' : Space} (v : View sig' κ' sp' S16x64x1024 .f32)
  (f : v.ty.Contents (Elt Ideal))

/-- A slab laid over a buffer is read at its own batch entry. -/
theorem read_slab_hit (L : Slabs Ideal) (b : Fin 16) (w : FVec Ideal S64x1024 .f32) (o : Fin 64) (j : Fin 1024) :
    v.read (Elt Ideal) (v.writes (Elt Ideal) f (⟨slab b.val b.isLt,
        shapeCast S1x64x1024 w shapeCasts_S64x1024_S1x64x1024⟩ :: L)) (ix3 b o j) = w (ix2 o j) := by
  rw [← slab_emb b o j, View.read_writes_cons_emb]
  pointwise

/-- A slab laid over a buffer leaves the other batch entries. -/
theorem read_slab_miss (L : Slabs Ideal) (n : ℕ) (hn : n < 16) (w) (b : Fin 16) (hb : b.val ≠ n) (o : Fin 64)
    (j : Fin 1024) :
    v.read (Elt Ideal) (v.writes (Elt Ideal) f (⟨slab n hn, w⟩ :: L)) (ix3 b o j)
      = v.read (Elt Ideal) (v.writes (Elt Ideal) f L) (ix3 b o j) :=
  View.read_writes_cons_miss_of_axis v f _ L _ (0 : Fin 3) n 1 rfl rfl rfl
    (by show b.val < n ∨ n + 1 ≤ b.val; omega)

/-- The cell scratch from batch entry `n` on is untouched by the first `n` slabs. -/
theorem piecesC_above (n : ℕ) (hn : n ≤ 16) (b : Fin 16) (hb : n ≤ b.val) (o : Fin 64) (j : Fin 1024) :
    v.read (Elt Ideal) (v.writes (Elt Ideal) f (piecesC p h ld init n hn)) (ix3 b o j)
      = v.read (Elt Ideal) (v.writes (Elt Ideal) f init) (ix3 b o j) := by
  induction n with
  | zero => rfl
  | succ n ih =>
    rw [piecesC, read_slab_miss _ _ _ _ _ _ _ (by omega)]
    exact ih _ (by omega)

/-- The cell scratch below batch entry `n` holds the new cell state. -/
theorem piecesC_below (hone : p.one (ix2 0 0) = 1) (hf : Finds p h c ld init) (n : ℕ) (hn : n ≤ 16) (b : Fin 16)
    (hb : b.val < n) (o : Fin 64) (j : Fin 1024) :
    v.read (Elt Ideal) (v.writes (Elt Ideal) f (piecesC p h ld init n hn)) (ix3 b o j)
      = Spec.newC (inputsOf p) (stateOf h) (stateOf c) b j o := by
  induction n with
  | zero => omega
  | succ n ih =>
    rw [piecesC]
    by_cases e : b.val = n
    · subst e
      rw [read_slab_hit]
      exact newC_apply p h c hone b _ (hf b.val hn) o j
    · rw [read_slab_miss _ _ _ _ _ _ _ e]
      exact ih _ (by omega)

/-- The hidden scratch below batch entry `n` holds the new hidden state. -/
theorem piecesH_below (hone : p.one (ix2 0 0) = 1) (hf : Finds p h c ld init) (n : ℕ) (hn : n ≤ 16) (b : Fin 16)
    (hb : b.val < n) (o : Fin 64) (j : Fin 1024) :
    v.read (Elt Ideal) (v.writes (Elt Ideal) f (piecesH p h ld init inith n hn)) (ix3 b o j)
      = Spec.newH (inputsOf p) (stateOf h) (stateOf c) b j o := by
  induction n with
  | zero => omega
  | succ n ih =>
    rw [piecesH]
    by_cases e : b.val = n
    · subst e
      rw [read_slab_hit]
      exact newH_apply p h c hone b _ (hf b.val hn) o j
    · rw [read_slab_miss _ _ _ _ _ _ _ e]
      exact ih _ (by omega)

end Read

/-- The output block below batch entry `n` holds the new hidden state. -/
theorem piecesO_below {sig' : RefSig} {κ' : Kind} {sp' : Space} (v : View sig' κ' sp' S16x1x64x1024 .f32)
    (f : v.ty.Contents (Elt Ideal)) (hone : p.one (ix2 0 0) = 1) (hf : Finds p h c ld init) (n : ℕ) (hn : n ≤ 16)
    (b : Fin 16) (hb : b.val < n) (o : Fin 64) (j : Fin 1024) :
    v.read (Elt Ideal) (v.writes (Elt Ideal) f (piecesO p h ld init n hn)) (ix4 b 0 o j)
      = Spec.newH (inputsOf p) (stateOf h) (stateOf c) b j o := by
  induction n with
  | zero => omega
  | succ n ih =>
    rw [piecesO]
    by_cases e : b.val = n
    · subst e
      rw [← slabO_emb b o j, View.read_writes_cons_emb]
      refine Eq.trans ?_ (newH_apply p h c hone b _ (hf b.val hn) o j)
      pointwise
    · refine (View.read_writes_cons_miss_of_axis v f _ _ _ (0 : Fin 4) n 1 rfl rfl rfl
        (by show b.val < n ∨ n + 1 ≤ b.val; omega)).trans (ih _ (by omega))

/-- Loading from the buffer the point before left finds its contents. -/
theorem finds_old (arg14 : Memref sig .tc .vmem S16x64x1024 .f32) (harg14 : arg14.IsWhole) :
    Finds p h c (ldOld arg14 harg14 c) [] := by
  intro n hn o j
  unfold ldOld
  rw [Memref.IsWhole.readAt_unread]
  exact congrArg c (slab_emb ⟨n, hn⟩ o j)

/-- Loading through the stored pieces finds the initial cell state the first point stored. -/
theorem finds_cov (arg14 : Memref sig .tc .vmem S16x64x1024 .f32)
    (hinit : ∀ y, arg14.view.read (Elt Ideal) (arg14.view.writes (Elt Ideal) arg14.view.junk init) y = c y) :
    Finds p h c (ldCov arg14) init := by
  intro n hn o j
  refine Eq.trans (congrArg (arg14.view.read (Elt Ideal) _) (slab_emb ⟨n, hn⟩ o j)) ?_
  exact (piecesC_above p h (ldCov arg14) init _ _ n _ ⟨n, hn⟩ le_rfl o j).trans (hinit _)

end Cert.Blocks
-- ==== Proof.Point.lean ====
module

public import proofs.«01_k».proof.Proof.Stored

/-! # What one grid point leaves

The output block and the two scratch buffers after one grid point, as functions of the arrays in its
staging buffers and of the states it starts from: one step of the recurrence. -/

@[expose] public section

set_option maxRecDepth 16384

noncomputable section

namespace Cert.Blocks

open Idealize Idealize.ShloMosaic Cert.KernelIdeal Cert.KernelIdeal.Gen

/-- The inputs of a step, from the blocks a grid point stages. -/
def inputsAt
    (x0 : Vec Ideal S1x16x32x1024 .f32) (x1 : Vec Ideal S1024x1024 .f32) (x2 : Vec Ideal S1x3x256x32 .f32)
    (x3 : Vec Ideal S1x3x256x64 .f32) (x4 : Vec Ideal S1x256x1 .f32) (x5 : Vec Ideal S1x256x1 .f32)
    (x6 : Vec Ideal S1x256x1 .f32) (x7 : Vec Ideal S1x3x64x1 .f32) : Spec.Inputs where
  L n m := x1 (ix2 m n)
  x b n i := x0 (ix4 0 b i n)
  wx g k i o := x2 (ix4 0 k (row g o) i)
  bx g o := x4 (ix3 0 (row g o) 0)
  wh g k i o := x3 (ix4 0 k (row g o) i)
  bh g o := x5 (ix3 0 (row g o) 0)
  wc k o := x7 (ix4 0 k o 0)
  bg g o := x6 (ix3 0 (row g o) 0)

section Loads

variable
    (arg1 : Memref sig .tc .vmem S1x16x32x1024 .f32) (harg1 : arg1.IsWhole)
    (arg2 : Memref sig .tc .vmem S1024x1024 .f32) (harg2 : arg2.IsWhole)
    (arg3 : Memref sig .tc .vmem S1x3x256x32 .f32) (harg3 : arg3.IsWhole)
    (arg4 : Memref sig .tc .vmem S1x3x256x64 .f32) (harg4 : arg4.IsWhole)
    (arg5 : Memref sig .tc .vmem S1x256x1 .f32) (harg5 : arg5.IsWhole)
    (arg6 : Memref sig .tc .vmem S1x256x1 .f32) (harg6 : arg6.IsWhole)
    (arg7 : Memref sig .tc .vmem S1x256x1 .f32) (harg7 : arg7.IsWhole)
    (arg8 : Memref sig .tc .vmem S1x3x64x1 .f32) (harg8 : arg8.IsWhole)
    (arg9 : Memref sig .tc .vmem S8x128 .f32) (harg9 : arg9.IsWhole)
    (x0 : Vec Ideal S1x16x32x1024 .f32) (x1 : Vec Ideal S1024x1024 .f32) (x2 : Vec Ideal S1x3x256x32 .f32)
    (x3 : Vec Ideal S1x3x256x64 .f32) (x4 : Vec Ideal S1x256x1 .f32) (x5 : Vec Ideal S1x256x1 .f32)
    (x6 : Vec Ideal S1x256x1 .f32) (x7 : Vec Ideal S1x3x64x1 .f32) (x8 : Vec Ideal S8x128 .f32)

/-- The loads of a grid point read the staged blocks. -/
theorem inputsOf_loadsOf :
    inputsOf (loadsOf arg1 harg1 arg2 harg2 arg3 harg3 arg4 harg4 arg5 harg5 arg6 harg6 arg7 harg7 arg8 harg8 arg9 harg9 x0 x1 x2 x3 x4 x5 x6 x7 x8) = inputsAt x0 x1 x2 x3 x4 x5 x6 x7 := by
  unfold inputsOf inputsAt loadsOf
  congr 1
  · funext n m
    exact (Memref.IsWhole.readAt_unread _ _ _ _).trans (by pointwise)
  · funext b n i
    exact (Memref.IsWhole.readAt_unread _ _ _ _).trans (by pointwise)
  · funext g k i o
    match k with
    | 0 => exact (Memref.IsWhole.readAt_unread _ _ _ _).trans (by pointwise)
    | 1 => exact (Memref.IsWhole.readAt_unread _ _ _ _).trans (by pointwise)
    | 2 => exact (Memref.IsWhole.readAt_unread _ _ _ _).trans (by pointwise)
  · funext g o
    exact (Memref.IsWhole.readAt_unread _ _ _ _).trans (by pointwise)
  · funext g k i o
    match k with
    | 0 => exact (Memref.IsWhole.readAt_unread _ _ _ _).trans (by pointwise)
    | 1 => exact (Memref.IsWhole.readAt_unread _ _ _ _).trans (by pointwise)
    | 2 => exact (Memref.IsWhole.readAt_unread _ _ _ _).trans (by pointwise)
  · funext g o
    exact (Memref.IsWhole.readAt_unread _ _ _ _).trans (by pointwise)
  · funext k o
    match k with
    | 0 => exact (Memref.IsWhole.readAt_unread _ _ _ _).trans (by pointwise)
    | 1 => exact (Memref.IsWhole.readAt_unread _ _ _ _).trans (by pointwise)
    | 2 => exact (Memref.IsWhole.readAt_unread _ _ _ _).trans (by pointwise)
  · funext g o
    match g with
    | 0 => exact (Memref.IsWhole.readAt_unread _ _ _ _).trans (by pointwise; rw [row_zero])
    | 1 => exact (Memref.IsWhole.readAt_unread _ _ _ _).trans (by pointwise; rfl)
    | 2 => exact (Memref.IsWhole.readAt_unread _ _ _ _).trans (by pointwise; rfl)
    | 3 => exact (Memref.IsWhole.readAt_unread _ _ _ _).trans (by pointwise; rfl)

/-- The constant a grid point loads is the first entry of its block. -/
theorem loadsOf_one :
    (loadsOf arg1 harg1 arg2 harg2 arg3 harg3 arg4 harg4 arg5 harg5 arg6 harg6 arg7 harg7 arg8 harg8 arg9 harg9 x0 x1 x2 x3 x4 x5 x6 x7 x8).one (ix2 0 0) = x8 (ix2 0 0) :=
  (Memref.IsWhole.readAt_unread _ _ _ _).trans (by pointwise)

end Loads

/-- Loading a whole buffer reads its contents. -/
theorem wholeOld_eq (a : Memref sig .tc .vmem S16x64x1024 .f32) (ha : a.IsWhole) (x : Vec Ideal S16x64x1024 .f32) :
    wholeOld a ha x = x := by
  funext y
  refine (Memref.IsWhole.readAt_unread _ _ _ _).trans ?_
  idx_vars y
  pointwise

section Init

variable {sig' : RefSig} {κ' : Kind} {sp' : Space} (v : View sig' κ' sp' S16x64x1024 .f32)
  (f : v.ty.Contents (Elt Ideal)) (a : Memref sig .tc .vmem S16x64x1024 .f32) (ha : a.IsWhole)
  (x : Vec Ideal S16x64x1024 .f32)

theorem whole_emb (y : S16x64x1024.Idx) :
    (Rect.unit (s := S16x64x1024) ![0, 0, 0] S16x64x1024.size inb_S16x64x1024_S16x64x1024_0_0_0).emb y = y := by
  refine Rect.emb_eq_of_coords _ _ _ fun a => ?_
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega

/-- The whole store of the initial hidden state reads back as that state. -/
theorem read_initH (y : S16x64x1024.Idx) :
    v.read (Elt Ideal) (v.writes (Elt Ideal) f (initH a ha x)) y = x y := by
  unfold initH
  rw [View.read_writes_cons_hit v f _ _ _ y y (whole_emb y), wholeOld_eq]
  unfold k0_pay4
  idx_vars y
  pointwise

/-- The whole store of the initial cell state reads back as that state. -/
theorem read_initC (y : S16x64x1024.Idx) :
    v.read (Elt Ideal) (v.writes (Elt Ideal) f (initC a ha x)) y = x y := by
  unfold initC
  rw [View.read_writes_cons_hit v f _ _ _ y y (whole_emb y), wholeOld_eq]
  unfold k0_pay5
  idx_vars y
  pointwise

/-- Loading the whole hidden scratch back finds the initial state. -/
theorem wholeCov_eq (a' : Memref sig .tc .vmem S16x64x1024 .f32) : wholeCov a' (initH a ha x) = x := by
  funext y
  refine Eq.trans (congrArg (a'.view.read (Elt Ideal) _) (whole_emb y)) ?_
  exact read_initH _ _ a ha x y

end Init

/-- What is said of one grid point's buffers: the scratch holds the states `s`, and the output block the
    hidden state of `s`. -/
def Holds (r : Vec Ideal S16x1x64x1024 .f32 × Vec Ideal S16x64x1024 .f32 × Vec Ideal S16x64x1024 .f32)
    (s : Spec.State × Spec.State) : Prop :=
  stateOf r.2.1 = s.1 ∧ stateOf r.2.2 = s.2 ∧ ∀ b o n, r.1 (ix4 b 0 o n) = s.1 b n o

section Points

variable (c : Dev nD) (i : grid0.Coords)
    (arg1 : Memref sig .tc .vmem S1x16x32x1024 .f32) (harg1 : arg1.IsWhole)
    (arg2 : Memref sig .tc .vmem S1024x1024 .f32) (harg2 : arg2.IsWhole)
    (arg3 : Memref sig .tc .vmem S1x3x256x32 .f32) (harg3 : arg3.IsWhole)
    (arg4 : Memref sig .tc .vmem S1x3x256x64 .f32) (harg4 : arg4.IsWhole)
    (arg5 : Memref sig .tc .vmem S1x256x1 .f32) (harg5 : arg5.IsWhole)
    (arg6 : Memref sig .tc .vmem S1x256x1 .f32) (harg6 : arg6.IsWhole)
    (arg7 : Memref sig .tc .vmem S1x256x1 .f32) (harg7 : arg7.IsWhole)
    (arg8 : Memref sig .tc .vmem S1x3x64x1 .f32) (harg8 : arg8.IsWhole)
    (arg9 : Memref sig .tc .vmem S8x128 .f32) (harg9 : arg9.IsWhole)
    (arg10 : Memref sig .tc .vmem S16x64x1024 .f32) (harg10 : arg10.IsWhole)
    (arg11 : Memref sig .tc .vmem S16x64x1024 .f32) (harg11 : arg11.IsWhole)
    (arg12 : Memref sig .tc .vmem S16x1x64x1024 .f32) (harg12 : arg12.IsWhole)
    (arg13 : Memref sig .tc .vmem S16x64x1024 .f32) (harg13 : arg13.IsWhole)
    (arg14 : Memref sig .tc .vmem S16x64x1024 .f32) (harg14 : arg14.IsWhole)
    (x0 : Vec Ideal S1x16x32x1024 .f32) (x1 : Vec Ideal S1024x1024 .f32) (x2 : Vec Ideal S1x3x256x32 .f32)
    (x3 : Vec Ideal S1x3x256x64 .f32) (x4 : Vec Ideal S1x256x1 .f32) (x5 : Vec Ideal S1x256x1 .f32)
    (x6 : Vec Ideal S1x256x1 .f32) (x7 : Vec Ideal S1x3x64x1 .f32) (x8 : Vec Ideal S8x128 .f32)
    (x9 : Vec Ideal S16x64x1024 .f32) (x10 : Vec Ideal S16x64x1024 .f32)
    (xs0 xs1 : Vec Ideal S16x64x1024 .f32)

/-- A later point: what it leaves in the cell scratch. -/
theorem later_C (hc0 : ¬cond0_0 i) (hone : x8 (ix2 0 0) = 1) :
    stateOf (sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1)
      = Spec.newC (inputsAt x0 x1 x2 x3 x4 x5 x6 x7) (stateOf xs0) (stateOf xs1) := by
  funext b j o
  unfold stateOf sout0_B_1
  rw [later_C_pieces, ← inputsOf_loadsOf arg1 harg1 arg2 harg2 arg3 harg3 arg4 harg4 arg5 harg5 arg6 harg6 arg7 harg7 arg8 harg8 arg9 harg9 x0 x1 x2 x3 x4 x5 x6 x7 x8, wholeOld_eq]
  exact piecesC_below _ _ _ _ _ _ _ ((loadsOf_one arg1 harg1 arg2 harg2 arg3 harg3 arg4 harg4 arg5 harg5 arg6 harg6 arg7 harg7 arg8 harg8 arg9 harg9 x0 x1 x2 x3 x4 x5 x6 x7 x8).trans hone)
    (finds_old _ _ _ _ _) 16 le_rfl b b.isLt o j

/-- A later point: what it leaves in the hidden scratch. -/
theorem later_H (hc0 : ¬cond0_0 i) (hone : x8 (ix2 0 0) = 1) :
    stateOf (sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1)
      = Spec.newH (inputsAt x0 x1 x2 x3 x4 x5 x6 x7) (stateOf xs0) (stateOf xs1) := by
  funext b j o
  unfold stateOf sout0_B_0
  rw [later_H_pieces, ← inputsOf_loadsOf arg1 harg1 arg2 harg2 arg3 harg3 arg4 harg4 arg5 harg5 arg6 harg6 arg7 harg7 arg8 harg8 arg9 harg9 x0 x1 x2 x3 x4 x5 x6 x7 x8, wholeOld_eq]
  exact piecesH_below _ _ _ _ _ _ _ _ ((loadsOf_one arg1 harg1 arg2 harg2 arg3 harg3 arg4 harg4 arg5 harg5 arg6 harg6 arg7 harg7 arg8 harg8 arg9 harg9 x0 x1 x2 x3 x4 x5 x6 x7 x8).trans hone)
    (finds_old _ _ _ _ _) 16 le_rfl b b.isLt o j

/-- A later point: what it leaves in the output block. -/
theorem later_O (hc0 : ¬cond0_0 i) (hone : x8 (ix2 0 0) = 1) (b : Fin 16) (o : Fin 64) (j : Fin 1024) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1 (ix4 b 0 o j)
      = Spec.newH (inputsAt x0 x1 x2 x3 x4 x5 x6 x7) (stateOf xs0) (stateOf xs1) b j o := by
  unfold out0_B_11
  rw [later_O_pieces, ← inputsOf_loadsOf arg1 harg1 arg2 harg2 arg3 harg3 arg4 harg4 arg5 harg5 arg6 harg6 arg7 harg7 arg8 harg8 arg9 harg9 x0 x1 x2 x3 x4 x5 x6 x7 x8, wholeOld_eq]
  exact piecesO_below _ _ _ _ _ _ _ ((loadsOf_one arg1 harg1 arg2 harg2 arg3 harg3 arg4 harg4 arg5 harg5 arg6 harg6 arg7 harg7 arg8 harg8 arg9 harg9 x0 x1 x2 x3 x4 x5 x6 x7 x8).trans hone)
    (finds_old _ _ _ _ _) 16 le_rfl b b.isLt o j

/-- The first point: what it leaves in the cell scratch. -/
theorem first_C (hc0 : cond0_0 i) (hone : x8 (ix2 0 0) = 1) :
    stateOf (sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)
      = Spec.newC (inputsAt x0 x1 x2 x3 x4 x5 x6 x7) (stateOf x9) (stateOf x10) := by
  funext b j o
  unfold stateOf sout0_A_1
  rw [first_C_pieces, ← inputsOf_loadsOf arg1 harg1 arg2 harg2 arg3 harg3 arg4 harg4 arg5 harg5 arg6 harg6 arg7 harg7 arg8 harg8 arg9 harg9 x0 x1 x2 x3 x4 x5 x6 x7 x8, wholeCov_eq]
  exact piecesC_below _ _ _ _ _ _ _ ((loadsOf_one arg1 harg1 arg2 harg2 arg3 harg3 arg4 harg4 arg5 harg5 arg6 harg6 arg7 harg7 arg8 harg8 arg9 harg9 x0 x1 x2 x3 x4 x5 x6 x7 x8).trans hone)
    (finds_cov _ _ _ _ _ (read_initC _ _ _ _ _)) 16 le_rfl b b.isLt o j

/-- The first point: what it leaves in the hidden scratch. -/
theorem first_H (hc0 : cond0_0 i) (hone : x8 (ix2 0 0) = 1) :
    stateOf (sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)
      = Spec.newH (inputsAt x0 x1 x2 x3 x4 x5 x6 x7) (stateOf x9) (stateOf x10) := by
  funext b j o
  unfold stateOf sout0_A_0
  rw [first_H_pieces, ← inputsOf_loadsOf arg1 harg1 arg2 harg2 arg3 harg3 arg4 harg4 arg5 harg5 arg6 harg6 arg7 harg7 arg8 harg8 arg9 harg9 x0 x1 x2 x3 x4 x5 x6 x7 x8, wholeCov_eq]
  exact piecesH_below _ _ _ _ _ _ _ _ ((loadsOf_one arg1 harg1 arg2 harg2 arg3 harg3 arg4 harg4 arg5 harg5 arg6 harg6 arg7 harg7 arg8 harg8 arg9 harg9 x0 x1 x2 x3 x4 x5 x6 x7 x8).trans hone)
    (finds_cov _ _ _ _ _ (read_initC _ _ _ _ _)) 16 le_rfl b b.isLt o j

/-- The first point: what it leaves in the output block. -/
theorem first_O (hc0 : cond0_0 i) (hone : x8 (ix2 0 0) = 1) (b : Fin 16) (o : Fin 64) (j : Fin 1024) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 (ix4 b 0 o j)
      = Spec.newH (inputsAt x0 x1 x2 x3 x4 x5 x6 x7) (stateOf x9) (stateOf x10) b j o := by
  unfold out0_A_11
  rw [first_O_pieces, ← inputsOf_loadsOf arg1 harg1 arg2 harg2 arg3 harg3 arg4 harg4 arg5 harg5 arg6 harg6 arg7 harg7 arg8 harg8 arg9 harg9 x0 x1 x2 x3 x4 x5 x6 x7 x8, wholeCov_eq]
  exact piecesO_below _ _ _ _ _ _ _ ((loadsOf_one arg1 harg1 arg2 harg2 arg3 harg3 arg4 harg4 arg5 harg5 arg6 harg6 arg7 harg7 arg8 harg8 arg9 harg9 x0 x1 x2 x3 x4 x5 x6 x7 x8).trans hone)
    (finds_cov _ _ _ _ _ (read_initC _ _ _ _ _)) 16 le_rfl b b.isLt o j

/-- The first point leaves one step from the states it is given. -/
theorem first_holds (hc0 : cond0_0 i) (hone : x8 (ix2 0 0) = 1)
    (r : Vec Ideal S16x1x64x1024 .f32 × Vec Ideal S16x64x1024 .f32 × Vec Ideal S16x64x1024 .f32)
    (e0 : r.1 = out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10) (e1 : r.2.1 = sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)
    (e2 : r.2.2 = sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10) :
    Holds r (Spec.newH (inputsAt x0 x1 x2 x3 x4 x5 x6 x7) (stateOf x9) (stateOf x10), Spec.newC (inputsAt x0 x1 x2 x3 x4 x5 x6 x7) (stateOf x9) (stateOf x10)) := by
  refine ⟨?_, ?_, ?_⟩
  · rw [e1]; exact first_H c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 hc0 hone
  · rw [e2]; exact first_C c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 hc0 hone
  · rw [e0]; exact first_O c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 hc0 hone

/-- A later point leaves one step from the states in its scratch. -/
theorem later_holds (hc0 : ¬cond0_0 i) (hone : x8 (ix2 0 0) = 1)
    (r : Vec Ideal S16x1x64x1024 .f32 × Vec Ideal S16x64x1024 .f32 × Vec Ideal S16x64x1024 .f32)
    (e0 : r.1 = out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1) (e1 : r.2.1 = sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1)
    (e2 : r.2.2 = sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 xs1) :
    Holds r (Spec.newH (inputsAt x0 x1 x2 x3 x4 x5 x6 x7) (stateOf xs0) (stateOf xs1), Spec.newC (inputsAt x0 x1 x2 x3 x4 x5 x6 x7) (stateOf xs0) (stateOf xs1)) := by
  refine ⟨?_, ?_, ?_⟩
  · rw [e1]; exact later_H c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xs0 xs1 hc0 hone
  · rw [e2]; exact later_C c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xs0 xs1 hc0 hone
  · rw [e0]; exact later_O c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 xs0 xs1 hc0 hone

end Points

end Cert.Blocks
-- ==== Proof.Entry.lean ====
module

public import proofs.«01_k».proof.Proof.Gen.KernelIdeal.Frame
public import proofs.«01_k».proof.Proof.Point
public import Idealize.ShloMosaic.Lib.StableHlo.ReadAt
public import Idealize.ShloMosaic.Lib.Pipeline.ValueKit

/-! # The blocks a grid point stages

Each array the host line prepares, read at an index, is one entry of an argument; and so is each block
of grid point `t`, which stages time step `t` of the arrays. -/

@[expose] public section

set_option maxRecDepth 16384

noncomputable section

namespace Cert.Blocks

open Idealize Idealize.ShloMosaic Idealize.ShloMosaic.TcCoe Cert.KernelIdeal Cert.KernelIdeal.Gen

/-- Row `64 g + o` of the four stacked gates lies in gate `g`. -/
theorem row_div (g : Fin 4) (o : Fin 64) (h : (row g o).val / 64 < 4) :
    (⟨(row g o).val / 64, h⟩ : Fin 4) = g :=
  Fin.ext (by simp only [row]; omega)

/-- Row `64 g + o` of the four stacked gates is channel `o` of its gate. -/
theorem row_mod (g : Fin 4) (o : Fin 64) (h : (row g o).val % 64 < 64) :
    (⟨(row g o).val % 64, h⟩ : Fin 64) = o :=
  Fin.ext (by simp only [row]; omega)

variable (m : (ℓ : Loc nD τ sig) → Buf (Elt Ideal) ℓ) (c : Dev nD)

/-- The transposed Laplacian. -/
theorem entry_v0 (a b : Fin 1024) :
    V m c main_v0 (ix2 a b) = m ((c.tc : Thread nD τ).loc main_arg1) (ix2 b a) := by
  unfold V
  after_reads_at

/-- The node features, features before nodes. -/
theorem entry_v1 (t : Fin 12) (b : Fin 16) (i : Fin 32) (n : Fin 1024) :
    V m c main_v1 (ix4 t b i n) = m ((c.tc : Thread nD τ).loc main_arg0) (ix4 b t n i) := by
  unfold V
  after_reads_at

/-- The weights of the features, four gates in one axis. -/
theorem entry_v3 (t : Fin 12) (k : Fin 3) (g : Fin 4) (o : Fin 64) (i : Fin 32) :
    V m c main_v3 (ix4 t k (row g o) i) = m ((c.tc : Thread nD τ).loc main_arg4) (ix5 t g k i o) := by
  unfold V
  after_reads_at
  rw [row_div, row_mod]

/-- The weights of the hidden state, four gates in one axis. -/
theorem entry_v5 (t : Fin 12) (k : Fin 3) (g : Fin 4) (o : Fin 64) (i : Fin 64) :
    V m c main_v5 (ix4 t k (row g o) i) = m ((c.tc : Thread nD τ).loc main_arg6) (ix5 t g k i o) := by
  unfold V
  after_reads_at
  rw [row_div, row_mod]

/-- The biases of the features. -/
theorem entry_v6 (t : Fin 12) (g : Fin 4) (o : Fin 64) :
    V m c main_v6 (ix3 t (row g o) 0) = m ((c.tc : Thread nD τ).loc main_arg5) (ix3 t g o) := by
  unfold V
  after_reads_at
  rw [row_div, row_mod]

/-- The biases of the hidden state. -/
theorem entry_v7 (t : Fin 12) (g : Fin 4) (o : Fin 64) :
    V m c main_v7 (ix3 t (row g o) 0) = m ((c.tc : Thread nD τ).loc main_arg7) (ix3 t g o) := by
  unfold V
  after_reads_at
  rw [row_div, row_mod]

/-- The biases of the gates. -/
theorem entry_v9 (t : Fin 12) (g : Fin 4) (o : Fin 64) :
    V m c main_v9 (ix3 t (row g o) 0) = m ((c.tc : Thread nD τ).loc main_arg9) (ix4 t g 0 o) := by
  unfold V
  after_reads_at
  rw [row_div, row_mod]

/-- The peephole weights. -/
theorem entry_v11 (t : Fin 12) (k : Fin 3) (o : Fin 64) :
    V m c main_v11 (ix4 t k o 0) = m ((c.tc : Thread nD τ).loc main_arg8) (ix4 t k 0 o) := by
  unfold V
  after_reads_at

/-- The first hidden state, channels before nodes. -/
theorem entry_v14 (b : Fin 16) (o : Fin 64) (n : Fin 1024) :
    V m c main_v14 (ix3 b o n) = m ((c.tc : Thread nD τ).loc main_arg2) (ix4 0 b n o) := by
  unfold V
  after_reads_at

/-- The first cell state, channels before nodes. -/
theorem entry_v17 (b : Fin 16) (o : Fin 64) (n : Fin 1024) :
    V m c main_v17 (ix3 b o n) = m ((c.tc : Thread nD τ).loc main_arg3) (ix4 0 b n o) := by
  unfold V
  after_reads_at

/-- The array of ones. -/
theorem entry_v18 (a : Fin 8) (b : Fin 128) :
    V m c main_v18 (ix2 a b) = (1 : EReal) := by
  unfold V
  after_reads_at

/-- Window 0 stages block `t` of its array at grid point `t`. -/
theorem idx_0 : ∀ t : Fin cfg0.N, win0_0.index t = ![t.val, 0, 0, 0] := by
  decide +kernel

/-- Window 1 stages block `0` of its array at grid point `t`. -/
theorem idx_1 : ∀ t : Fin cfg0.N, win0_1.index t = ![0, 0] := by
  decide +kernel

/-- Window 2 stages block `t` of its array at grid point `t`. -/
theorem idx_2 : ∀ t : Fin cfg0.N, win0_2.index t = ![t.val, 0, 0, 0] := by
  decide +kernel

/-- Window 3 stages block `t` of its array at grid point `t`. -/
theorem idx_3 : ∀ t : Fin cfg0.N, win0_3.index t = ![t.val, 0, 0, 0] := by
  decide +kernel

/-- Window 4 stages block `t` of its array at grid point `t`. -/
theorem idx_4 : ∀ t : Fin cfg0.N, win0_4.index t = ![t.val, 0, 0] := by
  decide +kernel

/-- Window 5 stages block `t` of its array at grid point `t`. -/
theorem idx_5 : ∀ t : Fin cfg0.N, win0_5.index t = ![t.val, 0, 0] := by
  decide +kernel

/-- Window 6 stages block `t` of its array at grid point `t`. -/
theorem idx_6 : ∀ t : Fin cfg0.N, win0_6.index t = ![t.val, 0, 0] := by
  decide +kernel

/-- Window 7 stages block `t` of its array at grid point `t`. -/
theorem idx_7 : ∀ t : Fin cfg0.N, win0_7.index t = ![t.val, 0, 0, 0] := by
  decide +kernel

/-- Window 8 stages block `0` of its array at grid point `t`. -/
theorem idx_8 : ∀ t : Fin cfg0.N, win0_8.index t = ![0, 0] := by
  decide +kernel

/-- Window 9 stages block `0` of its array at grid point `t`. -/
theorem idx_9 : ∀ t : Fin cfg0.N, win0_9.index t = ![0, 0, 0] := by
  decide +kernel

/-- Window 10 stages block `0` of its array at grid point `t`. -/
theorem idx_10 : ∀ t : Fin cfg0.N, win0_10.index t = ![0, 0, 0] := by
  decide +kernel

/-- Window 0 at grid point `t`, read at an index. -/
theorem blk_0 (t : Fin cfg0.N) (b : Fin 16) (i : Fin 32) (n : Fin 1024) :
    iblk m c 0 t (ix4 0 b i n) = V m c main_v1 (ix4 (Fin.cast N_0 t) b i n) := by
  blk_ext [iblk, idx_0 t]
  exact Nat.add_zero _

/-- Window 1 at grid point `t`, read at an index. -/
theorem blk_1 (t : Fin cfg0.N) (a b : Fin 1024) :
    iblk m c 1 t (ix2 a b) = V m c main_v0 (ix2 a b) := by
  blk_ext [iblk, idx_1 t]

/-- Window 2 at grid point `t`, read at an index. -/
theorem blk_2 (t : Fin cfg0.N) (k : Fin 3) (r : Fin 256) (i : Fin 32) :
    iblk m c 2 t (ix4 0 k r i) = V m c main_v3 (ix4 (Fin.cast N_0 t) k r i) := by
  blk_ext [iblk, idx_2 t]
  exact Nat.add_zero _

/-- Window 3 at grid point `t`, read at an index. -/
theorem blk_3 (t : Fin cfg0.N) (k : Fin 3) (r : Fin 256) (i : Fin 64) :
    iblk m c 3 t (ix4 0 k r i) = V m c main_v5 (ix4 (Fin.cast N_0 t) k r i) := by
  blk_ext [iblk, idx_3 t]
  exact Nat.add_zero _

/-- Window 4 at grid point `t`, read at an index. -/
theorem blk_4 (t : Fin cfg0.N) (r : Fin 256) :
    iblk m c 4 t (ix3 0 r 0) = V m c main_v6 (ix3 (Fin.cast N_0 t) r 0) := by
  blk_ext [iblk, idx_4 t]
  exact Nat.add_zero _

/-- Window 5 at grid point `t`, read at an index. -/
theorem blk_5 (t : Fin cfg0.N) (r : Fin 256) :
    iblk m c 5 t (ix3 0 r 0) = V m c main_v7 (ix3 (Fin.cast N_0 t) r 0) := by
  blk_ext [iblk, idx_5 t]
  exact Nat.add_zero _

/-- Window 6 at grid point `t`, read at an index. -/
theorem blk_6 (t : Fin cfg0.N) (r : Fin 256) :
    iblk m c 6 t (ix3 0 r 0) = V m c main_v9 (ix3 (Fin.cast N_0 t) r 0) := by
  blk_ext [iblk, idx_6 t]
  exact Nat.add_zero _

/-- Window 7 at grid point `t`, read at an index. -/
theorem blk_7 (t : Fin cfg0.N) (k : Fin 3) (o : Fin 64) :
    iblk m c 7 t (ix4 0 k o 0) = V m c main_v11 (ix4 (Fin.cast N_0 t) k o 0) := by
  blk_ext [iblk, idx_7 t]
  exact Nat.add_zero _

/-- Window 8 at grid point `t`, read at an index. -/
theorem blk_8 (t : Fin cfg0.N) (a : Fin 8) (b : Fin 128) :
    iblk m c 8 t (ix2 a b) = V m c main_v18 (ix2 a b) := by
  blk_ext [iblk, idx_8 t]

/-- Window 9 at grid point `t`, read at an index. -/
theorem blk_9 (t : Fin cfg0.N) (b : Fin 16) (o : Fin 64) (n : Fin 1024) :
    iblk m c 9 t (ix3 b o n) = V m c main_v14 (ix3 b o n) := by
  blk_ext [iblk, idx_9 t]

/-- Window 10 at grid point `t`, read at an index. -/
theorem blk_10 (t : Fin cfg0.N) (b : Fin 16) (o : Fin 64) (n : Fin 1024) :
    iblk m c 10 t (ix3 b o n) = V m c main_v17 (ix3 b o n) := by
  blk_ext [iblk, idx_10 t]

end Cert.Blocks
-- ==== Proof.Chain.lean ====
module

public import proofs.«01_k».proof.Proof.Entry

/-! # The states the grid passes on

Grid point `t` runs step `t` of the recurrence: what it leaves in the two scratch buffers is the hidden
state and the cell state after `t + 1` steps, and its output block is that hidden state. -/

@[expose] public section

set_option maxRecDepth 16384

noncomputable section

namespace Cert.Blocks

open Idealize Idealize.ShloMosaic Idealize.ShloMosaic.TcCoe Cert.KernelIdeal Cert.KernelIdeal.Gen

variable (m : (ℓ : Loc nD τ sig) → Buf (Elt Ideal) ℓ) (c : Dev nD)

/-- The argument arrays of the kernel, by their coordinates. -/
def argsOf : Spec.Args where
  X b t n i := m ((c.tc : Thread nD τ).loc main_arg0) (ix4 b t n i)
  L n k := m ((c.tc : Thread nD τ).loc main_arg1) (ix2 n k)
  h0 b n o := m ((c.tc : Thread nD τ).loc main_arg2) (ix4 0 b n o)
  c0 b n o := m ((c.tc : Thread nD τ).loc main_arg3) (ix4 0 b n o)
  wx t g k i o := m ((c.tc : Thread nD τ).loc main_arg4) (ix5 t g k i o)
  bx t g o := m ((c.tc : Thread nD τ).loc main_arg5) (ix3 t g o)
  wh t g k i o := m ((c.tc : Thread nD τ).loc main_arg6) (ix5 t g k i o)
  bh t g o := m ((c.tc : Thread nD τ).loc main_arg7) (ix3 t g o)
  wc t k o := m ((c.tc : Thread nD τ).loc main_arg8) (ix4 t k 0 o)
  bg t g o := m ((c.tc : Thread nD τ).loc main_arg9) (ix4 t g 0 o)

/-- The blocks grid point `t` stages are what step `t` reads of the arguments. -/
theorem inputsAt_iblk (t : Fin cfg0.N) :
    inputsAt (iblk m c 0 t) (iblk m c 1 t) (iblk m c 2 t) (iblk m c 3 t) (iblk m c 4 t) (iblk m c 5 t) (iblk m c 6 t)
      (iblk m c 7 t) = (argsOf m c).at (Fin.cast N_0 t) := by
  unfold inputsAt Spec.Args.at argsOf
  congr 1
  · funext n k; exact (blk_1 m c t k n).trans (entry_v0 m c k n)
  · funext b n i; exact (blk_0 m c t b i n).trans (entry_v1 m c _ b i n)
  · funext g k i o; exact (blk_2 m c t k (row g o) i).trans (entry_v3 m c _ k g o i)
  · funext g o; exact (blk_4 m c t (row g o)).trans (entry_v6 m c _ g o)
  · funext g k i o; exact (blk_3 m c t k (row g o) i).trans (entry_v5 m c _ k g o i)
  · funext g o; exact (blk_5 m c t (row g o)).trans (entry_v7 m c _ g o)
  · funext k o; exact (blk_7 m c t k o).trans (entry_v11 m c _ k o)
  · funext g o; exact (blk_6 m c t (row g o)).trans (entry_v9 m c _ g o)

/-- The block of ones holds one. -/
theorem iblk_one (t : Fin cfg0.N) : (iblk m c 8 t : Vec Ideal S8x128 .f32) (ix2 0 0) = (1 : EReal) :=
  (blk_8 m c t 0 0).trans (entry_v18 m c 0 0)

/-- Every grid point stages the first hidden state. -/
theorem iblk_h0 (t : Fin cfg0.N) : stateOf (iblk m c 9 t) = (argsOf m c).h0 := by
  funext b n o; exact (blk_9 m c t b o n).trans (entry_v14 m c b o n)

/-- Every grid point stages the first cell state. -/
theorem iblk_c0 (t : Fin cfg0.N) : stateOf (iblk m c 10 t) = (argsOf m c).c0 := by
  funext b n o; exact (blk_10 m c t b o n).trans (entry_v17 m c b o n)

/-- A triple's three parts. -/
theorem parts_of_eq {α β γ : Type} {r : α × β × γ} {a : α} {b : β} {d : γ} (h : r = (a, b, d)) :
    r.1 = a ∧ r.2.1 = b ∧ r.2.2 = d := by
  subst h
  exact ⟨rfl, rfl, rfl⟩

/-- The first grid point runs the step from the initial states. -/
theorem holds_first (t : Fin cfg0.N) (h0 : t.val % 12 = 0) :
    Holds (outsAt0 m c t.val t.isLt)
      (Spec.newH ((argsOf m c).at (Fin.cast N_0 t)) (argsOf m c).h0 (argsOf m c).c0,
        Spec.newC ((argsOf m c).at (Fin.cast N_0 t)) (argsOf m c).h0 (argsOf m c).c0) := by
  obtain ⟨e0, e1, e2⟩ := parts_of_eq (outsAt0_A m c t h0)
  have k := first_holds c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0) (iblk_one m c t)
    _ e0 e1 e2
  rw [inputsAt_iblk m c t, iblk_h0 m c t, iblk_c0 m c t] at k
  exact k

/-- A later grid point runs the step from the states the point before left. -/
theorem holds_later (t : Fin cfg0.N) (h0 : ¬t.val % 12 = 0) (s : Spec.State × Spec.State)
    (hs : Holds (outsAt0 m c (t.val - 1) (by omega)) s) :
    Holds (outsAt0 m c t.val t.isLt)
      (Spec.newH ((argsOf m c).at (Fin.cast N_0 t)) s.1 s.2, Spec.newC ((argsOf m c).at (Fin.cast N_0 t)) s.1 s.2) := by
  obtain ⟨hh, hc, -⟩ := hs
  obtain ⟨e0, e1, e2⟩ := parts_of_eq (outsAt0_B m c t h0)
  have k := later_holds c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (by omega)).2.1 (outsAt0 m c (t.val - 1) (by omega)).2.2 (fun h => h0 ((hcond0_0 t).mp h)) (iblk_one m c t)
    _ e0 e1 e2
  rw [inputsAt_iblk m c t, hh, hc] at k
  exact k

/-- After grid point `n` the buffers hold the states after `n + 1` steps. -/
theorem holds_states : ∀ (n : ℕ) (hn : n < cfg0.N), Holds (outsAt0 m c n hn) ((argsOf m c).states (n + 1))
  | 0, hn => by
    have e := (argsOf m c).states_succ (Fin.cast N_0 ⟨0, hn⟩)
    exact e ▸ holds_first m c ⟨0, hn⟩ rfl
  | n + 1, hn => by
    have e := (argsOf m c).states_succ (Fin.cast N_0 ⟨n + 1, hn⟩)
    have h12 : n + 1 < 12 := N_0 ▸ hn
    exact e ▸ holds_later m c ⟨n + 1, hn⟩ (by dsimp only; omega) _ (holds_states n (by omega))

end Cert.Blocks
-- ==== Proof.Output.lean ====
module

public import proofs.«01_k».proof.Proof.Chain

/-! # The kernel's result

The output array of the grid, and the result after its last transposition: entry `(b, t, n, o)` is the hidden
state after `t + 1` steps of the recurrence. -/

@[expose] public section

set_option maxRecDepth 16384

noncomputable section

namespace Cert.Blocks

open Idealize Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The hidden states of all steps, features before nodes. -/
def gridOut (a : Spec.Args) : Vec Ideal S16x12x64x1024 .f32 :=
  fun y => (a.states ((y 1).val + 1)).1 (y 0) (y 3) (y 2)

/-- The hidden states of all steps. -/
def result (a : Spec.Args) : Vec Ideal S16x12x1024x64 .f32 :=
  fun y => (a.states ((y 1).val + 1)).1 (y 0) (y 2) (y 3)

/-- Window 11 writes back block `t` at grid point `t`. -/
theorem idx_11 : ∀ t : Fin cfg0.N, win0_11.index t = ![0, t.val, 0, 0] := by
  decide +kernel

/-- The output array after the last grid point. -/
theorem arrAt_out : (dats m 0 c).arrAt 11 cfg0.N = gridOut (argsOf m c) := by
  refine (dats m 0 c).arrAt_eq_of_covers 11 _ (by decide +kernel) fun t hf y => ?_
  blk_simp
  rw [after0_11]
  obtain ⟨-, -, ho⟩ := holds_states m c t.val t.isLt
  idx_vars y
  obtain rfl : y1 = 0 := Subsingleton.elim _ _
  refine (ho y0 y2 y3).trans ?_
  have e0 : ((((View.whole main_v19).slice (win0_11.rect t)).emb (ix4 y0 0 y2 y3)) 0 : Fin 16) = y0 := by
    apply Fin.ext; blk_simp [idx_11 t]
  have e1 : ((((View.whole main_v19).slice (win0_11.rect t)).emb (ix4 y0 0 y2 y3)) 1 : Fin 12) = Fin.cast N_0 t := by
    apply Fin.ext; blk_simp [idx_11 t]
    exact Nat.add_zero _
  have e2 : ((((View.whole main_v19).slice (win0_11.rect t)).emb (ix4 y0 0 y2 y3)) 2 : Fin 64) = y2 := by
    apply Fin.ext; blk_simp [idx_11 t]
  have e3 : ((((View.whole main_v19).slice (win0_11.rect t)).emb (ix4 y0 0 y2 y3)) 3 : Fin 1024) = y3 := by
    apply Fin.ext; blk_simp [idx_11 t]
  unfold gridOut
  rw [e0, e1, e2, e3]
  rfl

/-- The run of the kernel. -/
theorem run_result : θ_run defs (onTc (τ := τ) (main (F := Ideal))) ⟨m, fun _ => 0, ρ⟩ (fun r => ∀ c : Dev nD,
    r.2.mem ((c.tc : Thread nD τ).loc main_v20) = result (argsOf m c)) := by
  run_from Gen.run_main m ρ
  show StableHlo.after hostOps1 (Pipeline.withArrays (cfgs 0).spec c (V0 m c) fun w => (dats m 0 c).arrAt w (cfgs 0).N) (Proc.tc.devRef main_v20) = _
  after_results_simp
  have e : Pipeline.withArrays (cfgs 0).spec c (V0 m c) (fun w => (dats m 0 c).arrAt w (cfgs 0).N) (Proc.tc.devRef main_v19)
      = gridOut (argsOf m c) :=
    (Pipeline.withArrays_arr spec0 (by decide) c _ _ 11).trans (arrAt_out m c)
  refine (congrArg (fun x => transpose S16x12x1024x64 [0, 1, 3, 2] x transposes_S16x12x64x1024_S16x12x1024x64_0_1_3_2) e).trans ?_
  funext y
  idx_vars y
  pointwise [gridOut, result]

end Cert.Blocks
-- ==== Proof.RefGate.lean ====
module

public import proofs.«01_k».proof.Proof.Spec
public import proofs.«01_k».proof.Proof.Gen.ReferenceIdeal.Run
public import Idealize.ShloMosaic.Lib.Pointwise

/-! # One trip of the reference's loop

The operations of one trip, read at an index: the convolutions, the gates and the new states are those of
the recurrence. -/

@[expose] public section

set_option maxRecDepth 16384

noncomputable section

namespace Cert.Plain

open Idealize Idealize.ShloMosaic Idealize.ShloMosaic.TcCoe Cert.ReferenceIdeal Cert.ReferenceIdeal.Gen Cert.ReferenceIdeal.Value

/-- The first Chebyshev term of a signal of 32 features. -/
def lapX (x : FVec Ideal S16x1024x32 .f32) (L : FVec Ideal S1024x1024 .f32) : FVec Ideal S16x1024x32 .f32 :=
  transpose S16x1024x32 [0, 2, 1] (Host.dotGeneral dot_S16x1024x32_S1024x1024_S16x32x1024_1_1_02_0_n_n none x L) transposes_S16x32x1024_S16x1024x32_0_2_1

/-- The first Chebyshev term at an index. -/
theorem lapX_apply (x : FVec Ideal S16x1024x32 .f32) (L : FVec Ideal S1024x1024 .f32) (b : Fin 16) (n : Fin 1024) (i : Fin 32) :
    lapX x L (ix3 b n i) = Spec.lap1 (fun n k => L (ix2 n k)) (fun k => x (ix3 b k i)) n := by
  unfold lapX
  pointwise [Spec.lap1]

/-- The second Chebyshev term of a signal of 32 features. -/
def twiceX (x : FVec Ideal S16x1024x32 .f32) (L : FVec Ideal S1024x1024 .f32) : FVec Ideal S16x1024x32 .f32 :=
  subf (mulf (broadcastInDim S16x1024x32 ![] bcast_S_S16x1024x32 (constant S_ .f32 0x40000000#32)) (lapX (lapX x L) L)) x

/-- The second Chebyshev term at an index. -/
theorem twiceX_apply (x : FVec Ideal S16x1024x32 .f32) (L : FVec Ideal S1024x1024 .f32) (b : Fin 16) (n : Fin 1024) (i : Fin 32) :
    twiceX x L (ix3 b n i) = Spec.lap2 (fun n k => L (ix2 n k)) (fun k => x (ix3 b k i)) n := by
  unfold twiceX
  pointwise [Spec.lap2, lapX_apply]
  rfl

/-- The Chebyshev convolution of a signal of 32 features. -/
def convX (x : FVec Ideal S16x1024x32 .f32) (L : FVec Ideal S1024x1024 .f32) (w : FVec Ideal S3x32x64 .f32) (β : FVec Ideal S1x64 .f32) :
    FVec Ideal S16x1024x64 .f32 :=
  addf (addf (addf (Host.dotGeneral dot_S16x1024x32_S32x64_S16x1024x64_2_0_01_1_n_n none x (shapeCast S32x64 (extractStridedSlice S1x32x64 ![0, 0, 0] w slices_S3x32x64_S1x32x64_0_0_0) shapeCasts_S1x32x64_S32x64))
        (Host.dotGeneral dot_S16x1024x32_S32x64_S16x1024x64_2_0_01_1_n_n none (lapX x L) (shapeCast S32x64 (extractStridedSlice S1x32x64 ![1, 0, 0] w slices_S3x32x64_S1x32x64_1_0_0) shapeCasts_S1x32x64_S32x64)))
      (Host.dotGeneral dot_S16x1024x32_S32x64_S16x1024x64_2_0_01_1_n_n none (twiceX x L) (shapeCast S32x64 (extractStridedSlice S1x32x64 ![2, 0, 0] w slices_S3x32x64_S1x32x64_2_0_0) shapeCasts_S1x32x64_S32x64)))
    (broadcastInDim S16x1024x64 ![0, 1, 2] bcast_S1x1x64_S16x1024x64_0_1_2 (broadcastInDim S1x1x64 ![2] bcast_S64_S1x1x64_2 (shapeCast S64 β shapeCasts_S1x64_S64)))

/-- The convolution at an index. -/
theorem convX_apply (x : FVec Ideal S16x1024x32 .f32) (L : FVec Ideal S1024x1024 .f32) (w : FVec Ideal S3x32x64 .f32) (β : FVec Ideal S1x64 .f32)
    (b : Fin 16) (n : Fin 1024) (o : Fin 64) :
    convX x L w β (ix3 b n o) = Spec.cheb (fun n k => L (ix2 n k)) (fun n i => x (ix3 b n i)) (fun k i o => w (ix3 k i o))
      (fun o => β (ix2 0 o)) n o := by
  unfold convX
  pointwise [Spec.cheb, lapX_apply, twiceX_apply]

/-- The first Chebyshev term of a signal of 64 features. -/
def lapH (x : FVec Ideal S16x1024x64 .f32) (L : FVec Ideal S1024x1024 .f32) : FVec Ideal S16x1024x64 .f32 :=
  transpose S16x1024x64 [0, 2, 1] (Host.dotGeneral dot_S16x1024x64_S1024x1024_S16x64x1024_1_1_02_0_n_n none x L) transposes_S16x64x1024_S16x1024x64_0_2_1

/-- The first Chebyshev term at an index. -/
theorem lapH_apply (x : FVec Ideal S16x1024x64 .f32) (L : FVec Ideal S1024x1024 .f32) (b : Fin 16) (n : Fin 1024) (i : Fin 64) :
    lapH x L (ix3 b n i) = Spec.lap1 (fun n k => L (ix2 n k)) (fun k => x (ix3 b k i)) n := by
  unfold lapH
  pointwise [Spec.lap1]

/-- The second Chebyshev term of a signal of 64 features. -/
def twiceH (x : FVec Ideal S16x1024x64 .f32) (L : FVec Ideal S1024x1024 .f32) : FVec Ideal S16x1024x64 .f32 :=
  subf (mulf (broadcastInDim S16x1024x64 ![] bcast_S_S16x1024x64 (constant S_ .f32 0x40000000#32)) (lapH (lapH x L) L)) x

/-- The second Chebyshev term at an index. -/
theorem twiceH_apply (x : FVec Ideal S16x1024x64 .f32) (L : FVec Ideal S1024x1024 .f32) (b : Fin 16) (n : Fin 1024) (i : Fin 64) :
    twiceH x L (ix3 b n i) = Spec.lap2 (fun n k => L (ix2 n k)) (fun k => x (ix3 b k i)) n := by
  unfold twiceH
  pointwise [Spec.lap2, lapH_apply]
  rfl

/-- The Chebyshev convolution of a signal of 64 features. -/
def convH (x : FVec Ideal S16x1024x64 .f32) (L : FVec Ideal S1024x1024 .f32) (w : FVec Ideal S3x64x64 .f32) (β : FVec Ideal S1x64 .f32) :
    FVec Ideal S16x1024x64 .f32 :=
  addf (addf (addf (Host.dotGeneral dot_S16x1024x64_S64x64_S16x1024x64_2_0_01_1_n_n none x (shapeCast S64x64 (extractStridedSlice S1x64x64 ![0, 0, 0] w slices_S3x64x64_S1x64x64_0_0_0) shapeCasts_S1x64x64_S64x64))
        (Host.dotGeneral dot_S16x1024x64_S64x64_S16x1024x64_2_0_01_1_n_n none (lapH x L) (shapeCast S64x64 (extractStridedSlice S1x64x64 ![1, 0, 0] w slices_S3x64x64_S1x64x64_1_0_0) shapeCasts_S1x64x64_S64x64)))
      (Host.dotGeneral dot_S16x1024x64_S64x64_S16x1024x64_2_0_01_1_n_n none (twiceH x L) (shapeCast S64x64 (extractStridedSlice S1x64x64 ![2, 0, 0] w slices_S3x64x64_S1x64x64_2_0_0) shapeCasts_S1x64x64_S64x64)))
    (broadcastInDim S16x1024x64 ![0, 1, 2] bcast_S1x1x64_S16x1024x64_0_1_2 (broadcastInDim S1x1x64 ![2] bcast_S64_S1x1x64_2 (shapeCast S64 β shapeCasts_S1x64_S64)))

/-- The convolution at an index. -/
theorem convH_apply (x : FVec Ideal S16x1024x64 .f32) (L : FVec Ideal S1024x1024 .f32) (w : FVec Ideal S3x64x64 .f32) (β : FVec Ideal S1x64 .f32)
    (b : Fin 16) (n : Fin 1024) (o : Fin 64) :
    convH x L w β (ix3 b n o) = Spec.cheb (fun n k => L (ix2 n k)) (fun n i => x (ix3 b n i)) (fun k i o => w (ix3 k i o))
      (fun o => β (ix2 0 o)) n o := by
  unfold convH
  pointwise [Spec.cheb, lapH_apply, twiceH_apply]

/-- A row of 64 features at every batch entry and node. -/
def rowOf (u : FVec Ideal S1x1x64 .f32) : FVec Ideal S16x1024x64 .f32 :=
  broadcastInDim S16x1024x64 ![0, 1, 2] bcast_S1x1x64_S16x1024x64_0_1_2 (broadcastInDim S1x1x64 ![1, 2] bcast_S1x64_S1x1x64_1_2 (shapeCast S1x64 u shapeCasts_S1x1x64_S1x64))

/-- That row at an index. -/
theorem rowOf_apply (u : FVec Ideal S1x1x64 .f32) (b : Fin 16) (n : Fin 1024) (o : Fin 64) :
    rowOf u (ix3 b n o) = u (ix3 0 0 o) := by
  unfold rowOf
  pointwise

/-- The logistic function, as a quotient. -/
def sigV (z : FVec Ideal S16x1024x64 .f32) : FVec Ideal S16x1024x64 .f32 :=
  Host.divf (broadcastInDim S16x1024x64 ![] bcast_S_S16x1024x64 (constant S_ .f32 0x3F800000#32)) (addf (broadcastInDim S16x1024x64 ![] bcast_S_S16x1024x64 (constant S_ .f32 0x3F800000#32)) (Host.exp (Host.negf z)))

/-- The logistic function at an index. -/
theorem sigV_apply (z : FVec Ideal S16x1024x64 .f32) (b : Fin 16) (n : Fin 1024) (o : Fin 64) :
    sigV z (ix3 b n o) = Spec.sig (z (ix3 b n o)) := by
  unfold sigV
  pointwise
  rfl

end Cert.Plain
-- ==== Proof.RefTrip.lean ====
module

public import proofs.«01_k».proof.Proof.RefGate
public import Idealize.ShloMosaic.Lib.Tactic

/-! # One trip of the reference's loop is one step of the recurrence

From the carried buffers of a trip, the two new states it makes. -/

@[expose] public section

set_option maxRecDepth 16384

noncomputable section

namespace Cert.Plain

open Idealize Idealize.ShloMosaic Idealize.ShloMosaic.TcCoe Cert.ReferenceIdeal Cert.ReferenceIdeal.Gen Cert.ReferenceIdeal.Value

/-- A state kept batch entry by node by feature. -/
def stateOf (v : FVec Ideal S16x1024x64 .f32) : Spec.State := fun b n o => v (ix3 b n o)

variable (V0 : Valuation τ sig (Elt Ideal))

/-- The hidden state a trip starts from. -/
abbrev hid : FVec Ideal S16x1024x64 .f32 := V0 (Proc.devRef .tc main_v6_9)

/-- The cell state a trip starts from. -/
abbrev cel : FVec Ideal S16x1024x64 .f32 := V0 (Proc.devRef .tc main_v6_10)

/-- The operator. -/
abbrev lap : FVec Ideal S1024x1024 .f32 := V0 (Proc.devRef .tc main_v6_7)

/-- What a trip reads, its slices of the scanned arrays taken. -/
def inputsOf : Spec.Inputs where
  L n k := lap V0 (ix2 n k)
  x b n i := res_main_while0b_v8 V0 (ix3 b n i)
  wx g k i o := res_main_while0b_v9 V0 (ix4 g k i o)
  bx g o := res_main_while0b_v10 V0 (ix2 g o)
  wh g k i o := res_main_while0b_v11 V0 (ix4 g k i o)
  bh g o := res_main_while0b_v12 V0 (ix2 g o)
  wc k o := res_main_while0b_v13 V0 (ix3 k 0 o)
  bg g o := res_main_while0b_v14 V0 (ix3 g 0 o)

/-- The two convolutions of one gate, added. -/
def preV (wx : FVec Ideal S3x32x64 .f32) (wh : FVec Ideal S3x64x64 .f32) (bx bh : FVec Ideal S1x64 .f32) :
    FVec Ideal S16x1024x64 .f32 :=
  addf (convX (res_main_while0b_v8 V0) (lap V0) wx bx) (convH (hid V0) (lap V0) wh bh)

/-- The two convolutions of the input gate, added. -/
def pre0 : FVec Ideal S16x1024x64 .f32 :=
  preV V0 (res_main_while0b_v16 V0) (res_main_while0b_v41 V0) (extractStridedSlice S1x64 ![0, 0] (res_main_while0b_v10 V0) slices_S4x64_S1x64_0_0) (extractStridedSlice S1x64 ![0, 0] (res_main_while0b_v12 V0) slices_S4x64_S1x64_0_0)

/-- They are the recurrence's. -/
theorem pre0_apply (b : Fin 16) (n : Fin 1024) (o : Fin 64) :
    pre0 V0 (ix3 b n o) = Spec.pre (inputsOf V0) (stateOf (hid V0)) 0 b n o := by
  unfold pre0 preV
  pointwise [convX_apply, convH_apply, Spec.pre, res_main_while0b_v16, res_main_while0b_v41]
  rfl

/-- The two convolutions of the forget gate, added. -/
def pre1 : FVec Ideal S16x1024x64 .f32 :=
  preV V0 (res_main_while0b_v84 V0) (res_main_while0b_v109 V0) (extractStridedSlice S1x64 ![1, 0] (res_main_while0b_v10 V0) slices_S4x64_S1x64_1_0) (extractStridedSlice S1x64 ![1, 0] (res_main_while0b_v12 V0) slices_S4x64_S1x64_1_0)

/-- They are the recurrence's. -/
theorem pre1_apply (b : Fin 16) (n : Fin 1024) (o : Fin 64) :
    pre1 V0 (ix3 b n o) = Spec.pre (inputsOf V0) (stateOf (hid V0)) 1 b n o := by
  unfold pre1 preV
  pointwise [convX_apply, convH_apply, Spec.pre, res_main_while0b_v84, res_main_while0b_v109]
  rfl

/-- The two convolutions of the candidate gate, added. -/
def pre2 : FVec Ideal S16x1024x64 .f32 :=
  preV V0 (res_main_while0b_v152 V0) (res_main_while0b_v177 V0) (extractStridedSlice S1x64 ![2, 0] (res_main_while0b_v10 V0) slices_S4x64_S1x64_2_0) (extractStridedSlice S1x64 ![2, 0] (res_main_while0b_v12 V0) slices_S4x64_S1x64_2_0)

/-- They are the recurrence's. -/
theorem pre2_apply (b : Fin 16) (n : Fin 1024) (o : Fin 64) :
    pre2 V0 (ix3 b n o) = Spec.pre (inputsOf V0) (stateOf (hid V0)) 2 b n o := by
  unfold pre2 preV
  pointwise [convX_apply, convH_apply, Spec.pre, res_main_while0b_v152, res_main_while0b_v177]
  rfl

/-- The two convolutions of the output gate, added. -/
def pre3 : FVec Ideal S16x1024x64 .f32 :=
  preV V0 (res_main_while0b_v212 V0) (res_main_while0b_v237 V0) (extractStridedSlice S1x64 ![3, 0] (res_main_while0b_v10 V0) slices_S4x64_S1x64_3_0) (extractStridedSlice S1x64 ![3, 0] (res_main_while0b_v12 V0) slices_S4x64_S1x64_3_0)

/-- They are the recurrence's. -/
theorem pre3_apply (b : Fin 16) (n : Fin 1024) (o : Fin 64) :
    pre3 V0 (ix3 b n o) = Spec.pre (inputsOf V0) (stateOf (hid V0)) 3 b n o := by
  unfold pre3 preV
  pointwise [convX_apply, convH_apply, Spec.pre, res_main_while0b_v212, res_main_while0b_v237]
  rfl

/-- The new cell state, written with the gates. -/
theorem cell_eq : res_main_while0b_v210 V0 =
    addf (mulf (sigV (addf (addf (pre1 V0) (mulf (rowOf (extractStridedSlice S1x1x64 ![1, 0, 0] (res_main_while0b_v13 V0) slices_S3x1x64_S1x1x64_1_0_0)) (cel V0))) (rowOf (extractStridedSlice S1x1x64 ![1, 0, 0] (res_main_while0b_v14 V0) slices_S4x1x64_S1x1x64_1_0_0)))) (cel V0))
      (mulf (sigV (addf (addf (pre0 V0) (mulf (rowOf (extractStridedSlice S1x1x64 ![0, 0, 0] (res_main_while0b_v13 V0) slices_S3x1x64_S1x1x64_0_0_0)) (cel V0))) (rowOf (extractStridedSlice S1x1x64 ![0, 0, 0] (res_main_while0b_v14 V0) slices_S4x1x64_S1x1x64_0_0_0)))) (Host.tanh (addf (pre2 V0) (rowOf (extractStridedSlice S1x1x64 ![2, 0, 0] (res_main_while0b_v14 V0) slices_S4x1x64_S1x1x64_2_0_0))))) := by
  sl_kernel_rfl

/-- The new hidden state, written with the output gate. -/
theorem hid_eq : res_main_while0b_v280 V0 =
    mulf (sigV (addf (addf (pre3 V0) (mulf (rowOf (extractStridedSlice S1x1x64 ![2, 0, 0] (res_main_while0b_v13 V0) slices_S3x1x64_S1x1x64_2_0_0)) (res_main_while0b_v210 V0))) (rowOf (extractStridedSlice S1x1x64 ![3, 0, 0] (res_main_while0b_v14 V0) slices_S4x1x64_S1x1x64_3_0_0)))) (Host.tanh (res_main_while0b_v210 V0)) := by
  sl_kernel_rfl

/-- A trip's new cell state is the recurrence's. -/
theorem cell_apply (b : Fin 16) (n : Fin 1024) (o : Fin 64) :
    res_main_while0b_v210 V0 (ix3 b n o) = Spec.newC (inputsOf V0) (stateOf (hid V0)) (stateOf (cel V0)) b n o := by
  rw [cell_eq]
  unfold Spec.newC
  simp only [← pre0_apply, ← pre1_apply, ← pre2_apply]
  pointwise [sigV_apply, rowOf_apply]
  rfl

/-- A trip's new hidden state is the recurrence's. -/
theorem hid_apply (b : Fin 16) (n : Fin 1024) (o : Fin 64) :
    res_main_while0b_v280 V0 (ix3 b n o) = Spec.newH (inputsOf V0) (stateOf (hid V0)) (stateOf (cel V0)) b n o := by
  rw [hid_eq]
  unfold Spec.newH
  rw [← cell_apply, ← pre3_apply]
  pointwise [sigV_apply, rowOf_apply]
  rfl

end Cert.Plain
-- ==== Proof.RefRow.lean ====
module

public import proofs.«01_k».proof.Proof.RefTrip
public import Idealize.ShloMosaic.Lib.DynamicIndex

/-! # What a trip of the reference's loop slices out

When the counter holds `t`, a trip takes row `t` of each scanned array. -/

@[expose] public section

set_option maxRecDepth 16384

noncomputable section

namespace Cert.Plain

open Idealize Idealize.ShloMosaic Idealize.ShloMosaic.TcCoe Cert.ReferenceIdeal Cert.ReferenceIdeal.Gen Cert.ReferenceIdeal.Value

variable (V0 : Valuation τ sig (Elt Ideal)) (t : Fin 12)

/-- The counter holds `t`. -/
def Counts : Prop := V0 (Proc.devRef .tc main_v6_8) = fun _ => BitVec.ofNat 32 t.val

variable {V0 t}

/-- Read as a signed number it is `t`. -/
theorem Counts.toInt (h : Counts V0 t) (z : S_.Idx) :
    ((V0 (Proc.devRef .tc main_v6_8) : IVec S_ 32) z).toInt = (t.val : Int) := by
  rw [h]
  exact toInt_ofNat_of_lt (by omega)

/-- Row `t` of a stack of twelve, sliced out at a computed start and its unit axis dropped: where the start is `t` on
    the first axis and zero on the others, the entry at `j` is the stack's at `t` and `j`. -/
theorem row_slice {n : ℕ} (d : Fin n → ℕ) (x : (⟨n + 1, Matrix.vecCons 12 d⟩ : Shape).Idx → EReal) (start : Fin (n + 1) → Int)
    (h : (⟨n + 1, Matrix.vecCons 12 d⟩ : Shape).Slices (fun _ => 0) ⟨n + 1, Matrix.vecCons 1 d⟩)
    (hc : (⟨n + 1, Matrix.vecCons 1 d⟩ : Shape).ShapeCasts ⟨n, d⟩) (j : (⟨n, d⟩ : Shape).Idx)
    (i : (⟨n + 1, Matrix.vecCons 12 d⟩ : Shape).Idx) (h0 : start 0 = (t.val : Int)) (hs : ∀ a : Fin n, start a.succ = 0)
    (i0 : (i 0).val = t.val) (is : ∀ a : Fin n, (i a.succ).val = (j a).val) :
    shapeCast ⟨n, d⟩ (Host.dynamicSlice ⟨n + 1, Matrix.vecCons 1 d⟩ x start h) hc j = x i := by
  have hoff : (⟨n + 1, Matrix.vecCons 12 d⟩ : Shape).Slices (Fin.cons t.val fun _ => 0) ⟨n + 1, Matrix.vecCons 1 d⟩ := by
    refine ⟨rfl, fun a => ?_⟩
    refine Fin.cases ?_ (fun b => ?_) a
    · exact t.isLt
    · exact (Nat.zero_add (d b)).le
  rw [shapeCast_dropUnit_apply, Host.dynamicSlice_eq_extractStridedSlice _ x start _ h hoff (Fin.cases h0 hs)]
  refine extractStridedSlice_apply _ x hoff _ i fun a => ?_
  refine Fin.cases ?_ (fun b => ?_) a
  · exact i0
  · exact (is b).trans (Nat.zero_add _).symm

/-- Row `t` of the node features. -/
theorem v8_row (h : Counts V0 t) (b : Fin 16) (n : Fin 1024) (i : Fin 32) :
    res_main_while0b_v8 V0 (ix3 b n i) = (V0 (Proc.devRef .tc main_v6_0) : FVec Ideal S12x16x1024x32 .f32) (ix4 t b n i) :=
  row_slice ![16, 1024, 32] _ _ _ _ _ _ (h.toInt _) (fun a => by fin_cases a <;> rfl) rfl (fun a => by fin_cases a <;> rfl)

/-- Row `t` of the input weights. -/
theorem v9_row (h : Counts V0 t) (g : Fin 4) (k : Fin 3) (i : Fin 32) (o : Fin 64) :
    res_main_while0b_v9 V0 (ix4 g k i o) = (V0 (Proc.devRef .tc main_v6_1) : FVec Ideal S12x4x3x32x64 .f32) (ix5 t g k i o) :=
  row_slice ![4, 3, 32, 64] _ _ _ _ _ _ (h.toInt _) (fun a => by fin_cases a <;> rfl) rfl (fun a => by fin_cases a <;> rfl)

/-- Row `t` of the input biases. -/
theorem v10_row (h : Counts V0 t) (g : Fin 4) (o : Fin 64) :
    res_main_while0b_v10 V0 (ix2 g o) = (V0 (Proc.devRef .tc main_v6_2) : FVec Ideal S12x4x64 .f32) (ix3 t g o) :=
  row_slice ![4, 64] _ _ _ _ _ _ (h.toInt _) (fun a => by fin_cases a <;> rfl) rfl (fun a => by fin_cases a <;> rfl)

/-- Row `t` of the hidden weights. -/
theorem v11_row (h : Counts V0 t) (g : Fin 4) (k : Fin 3) (i : Fin 64) (o : Fin 64) :
    res_main_while0b_v11 V0 (ix4 g k i o) = (V0 (Proc.devRef .tc main_v6_3) : FVec Ideal S12x4x3x64x64 .f32) (ix5 t g k i o) :=
  row_slice ![4, 3, 64, 64] _ _ _ _ _ _ (h.toInt _) (fun a => by fin_cases a <;> rfl) rfl (fun a => by fin_cases a <;> rfl)

/-- Row `t` of the hidden biases. -/
theorem v12_row (h : Counts V0 t) (g : Fin 4) (o : Fin 64) :
    res_main_while0b_v12 V0 (ix2 g o) = (V0 (Proc.devRef .tc main_v6_4) : FVec Ideal S12x4x64 .f32) (ix3 t g o) :=
  row_slice ![4, 64] _ _ _ _ _ _ (h.toInt _) (fun a => by fin_cases a <;> rfl) rfl (fun a => by fin_cases a <;> rfl)

/-- Row `t` of the peephole weights. -/
theorem v13_row (h : Counts V0 t) (k : Fin 3) (o : Fin 64) :
    res_main_while0b_v13 V0 (ix3 k 0 o) = (V0 (Proc.devRef .tc main_v6_5) : FVec Ideal S12x3x1x64 .f32) (ix4 t k 0 o) :=
  row_slice ![3, 1, 64] _ _ _ _ _ _ (h.toInt _) (fun a => by fin_cases a <;> rfl) rfl (fun a => by fin_cases a <;> rfl)

/-- Row `t` of the gate biases. -/
theorem v14_row (h : Counts V0 t) (g : Fin 4) (o : Fin 64) :
    res_main_while0b_v14 V0 (ix3 g 0 o) = (V0 (Proc.devRef .tc main_v6_6) : FVec Ideal S12x4x1x64 .f32) (ix4 t g 0 o) :=
  row_slice ![4, 1, 64] _ _ _ _ _ _ (h.toInt _) (fun a => by fin_cases a <;> rfl) rfl (fun a => by fin_cases a <;> rfl)

end Cert.Plain
-- ==== Proof.RefLoop.lean ====
module

public import proofs.«01_k».proof.Proof.RefRow

/-! # The reference's loop runs the recurrence

Before trip `k` the carried buffers hold the arguments, the counter `k`, the two states after `k` steps, and
the hidden states of the steps already made, one row each. -/

@[expose] public section

set_option maxRecDepth 16384

noncomputable section

namespace Cert.Plain

open Idealize Idealize.ShloMosaic Idealize.ShloMosaic.TcCoe Cert.ReferenceIdeal Cert.ReferenceIdeal.Gen Cert.ReferenceIdeal.Value

/-- The output buffer, one row a step. -/
abbrev outRows (V0 : Valuation τ sig (Elt Ideal)) : FVec Ideal S12x16x1024x64 .f32 := V0 (Proc.devRef .tc main_v6_11)

/-- What the carried buffers hold before trip `k`. -/
structure Carries (a : Spec.Args) (V0 : Valuation τ sig (Elt Ideal)) (k : ℕ) : Prop where
  X : ∀ t b n i, (V0 (Proc.devRef .tc main_v6_0) : FVec Ideal S12x16x1024x32 .f32) (ix4 t b n i) = a.X b t n i
  wx : ∀ t g j i o, (V0 (Proc.devRef .tc main_v6_1) : FVec Ideal S12x4x3x32x64 .f32) (ix5 t g j i o) = a.wx t g j i o
  bx : ∀ t g o, (V0 (Proc.devRef .tc main_v6_2) : FVec Ideal S12x4x64 .f32) (ix3 t g o) = a.bx t g o
  wh : ∀ t g j i o, (V0 (Proc.devRef .tc main_v6_3) : FVec Ideal S12x4x3x64x64 .f32) (ix5 t g j i o) = a.wh t g j i o
  bh : ∀ t g o, (V0 (Proc.devRef .tc main_v6_4) : FVec Ideal S12x4x64 .f32) (ix3 t g o) = a.bh t g o
  wc : ∀ t j o, (V0 (Proc.devRef .tc main_v6_5) : FVec Ideal S12x3x1x64 .f32) (ix4 t j 0 o) = a.wc t j o
  bg : ∀ t g o, (V0 (Proc.devRef .tc main_v6_6) : FVec Ideal S12x4x1x64 .f32) (ix4 t g 0 o) = a.bg t g o
  L : ∀ n j, lap V0 (ix2 n j) = a.L n j
  ctr : V0 (Proc.devRef .tc main_v6_8) = fun _ => BitVec.ofNat 32 k
  h : stateOf (hid V0) = (a.states k).1
  c : stateOf (cel V0) = (a.states k).2
  rows : ∀ s : Fin 12, s.val < k → ∀ b n o, outRows V0 (ix4 s b n o) = (a.states (s.val + 1)).1 b n o

variable {a : Spec.Args} {V0 : Valuation τ sig (Elt Ideal)} {t : Fin 12}

/-- Trip `t` reads what step `t` of the recurrence reads. -/
theorem Carries.inputs (h : Carries a V0 t.val) : inputsOf V0 = a.at t := by
  have hc : Counts V0 t := h.ctr
  unfold inputsOf Spec.Args.at
  congr 1
  · funext n j; exact h.L n j
  · funext b n i; exact (v8_row hc b n i).trans (h.X t b n i)
  · funext g k i o; exact (v9_row hc g k i o).trans (h.wx t g k i o)
  · funext g o; exact (v10_row hc g o).trans (h.bx t g o)
  · funext g k i o; exact (v11_row hc g k i o).trans (h.wh t g k i o)
  · funext g o; exact (v12_row hc g o).trans (h.bh t g o)
  · funext k o; exact (v13_row hc k o).trans (h.wc t k o)
  · funext g o; exact (v14_row hc g o).trans (h.bg t g o)

/-- The hidden state trip `t` makes. -/
theorem Carries.newH (h : Carries a V0 t.val) (b : Fin 16) (n : Fin 1024) (o : Fin 64) :
    res_main_while0b_v280 V0 (ix3 b n o) = (a.states (t.val + 1)).1 b n o := by
  rw [hid_apply, h.inputs, h.h, h.c, a.states_succ]

/-- The cell state trip `t` makes. -/
theorem Carries.newC (h : Carries a V0 t.val) (b : Fin 16) (n : Fin 1024) (o : Fin 64) :
    res_main_while0b_v210 V0 (ix3 b n o) = (a.states (t.val + 1)).2 b n o := by
  rw [cell_apply, h.inputs, h.h, h.c, a.states_succ]

/-- A block of one row fits at row `t` of the output. -/
theorem row_fits (t : Fin 12) : (S12x16x1024x64).Slices ![t.val, 0, 0, 0] S1x16x1024x64 :=
  ⟨rfl, fun a => by have := t.isLt; fin_cases a <;> first | exact Nat.le_refl _ | exact this⟩

/-- Writing one row changes that row only. -/
theorem update_row (x : FVec Ideal S12x16x1024x64 .f32) (u : FVec Ideal S1x16x1024x64 .f32) (t s : Fin 12) (b : Fin 16)
    (n : Fin 1024) (o : Fin 64) :
    updateSlice x u ![t.val, 0, 0, 0] (row_fits t) (ix4 s b n o) = if s = t then u (ix4 0 b n o) else x (ix4 s b n o) := by
  by_cases hst : s = t
  · subst hst
    have hin : ∀ a : Fin 4, (![s.val, 0, 0, 0] a : Nat) ≤ ((ix4 s b n o : S12x16x1024x64.Idx) a).val
        ∧ ((ix4 s b n o : S12x16x1024x64.Idx) a).val < (![s.val, 0, 0, 0] a : Nat) + (![1, 16, 1024, 64] a : Nat) := by
      intro a
      fin_cases a
      · exact ⟨Nat.le_refl _, Nat.lt_succ_self _⟩
      · exact ⟨Nat.zero_le _, Nat.lt_of_lt_of_eq b.isLt (Nat.zero_add _).symm⟩
      · exact ⟨Nat.zero_le _, Nat.lt_of_lt_of_eq n.isLt (Nat.zero_add _).symm⟩
      · exact ⟨Nat.zero_le _, Nat.lt_of_lt_of_eq o.isLt (Nat.zero_add _).symm⟩
    rw [if_pos rfl]
    unfold updateSlice
    refine (dif_pos (fun a => ?_)).trans (congrArg u (funext fun a => Fin.ext ?_))
    · have h := hin a
      fin_cases a <;> exact h
    · fin_cases a
      · exact Nat.sub_self _
      all_goals rfl
  · rw [if_neg hst]
    unfold updateSlice
    exact dif_neg (fun hin => hst (Fin.ext (by
      have h0 := hin (0 : Fin 4)
      have h1 : t.val ≤ s.val := h0.1
      have h2 : s.val < t.val + 1 := h0.2
      omega)))

/-- The starts of the block a trip writes: row `t`, and zero along the other axes. -/
theorem write_start (hc : Counts V0 t) (a : Fin 4) :
    ((![V0 (Proc.devRef .tc main_v6_8), constantI S_ 32 0#32, constantI S_ 32 0#32, constantI S_ 32 0#32] :
      Fin 4 → (⟨S_, .i32⟩ : BufTy).Contents (Elt Ideal)) a (Shape.Idx.first h_S_)).toInt = ((![t.val, 0, 0, 0] a : Nat) : Int) := by
  fin_cases a <;> first | exact hc.toInt _ | rfl

/-- A block written at a computed start that is row `t`. -/
theorem write_at (x : FVec Ideal S12x16x1024x64 .f32) (u : FVec Ideal S1x16x1024x64 .f32) (t : Fin 12)
    (start : Fin 4 → Int) (hw : ∀ a, start a = ((![t.val, 0, 0, 0] a : Nat) : Int)) :
    Host.dynamicUpdateSlice x u start updateFits_S12x16x1024x64_S1x16x1024x64
      = updateSlice x u ![t.val, 0, 0, 0] (row_fits t) := by
  refine Host.dynamicUpdateSlice_eq_updateSlice x u start updateFits_S12x16x1024x64_S1x16x1024x64 ![t.val, 0, 0, 0]
    (fun a => ?_) (row_fits t)
  have hf := (row_fits t).2 a
  rw [hw a]
  omega

/-- What trip `t` leaves in the output buffer: its hidden state written as row `t`. -/
theorem step_rows (hc : Counts V0 t) : step_main_v6_11 V0 = updateSlice (outRows V0)
    (broadcastInDim S1x16x1024x64 ![1, 2, 3] bcast_S16x1024x64_S1x16x1024x64_1_2_3 (res_main_while0b_v280 V0))
    ![t.val, 0, 0, 0] (row_fits t) := by
  unfold step_main_v6_11
  generalize res_main_while0b_v280 V0 = y
  exact write_at (outRows V0) (broadcastInDim S1x16x1024x64 ![1, 2, 3] bcast_S16x1024x64_S1x16x1024x64_1_2_3 y) t
    (fun a => ((![V0 (Proc.devRef .tc main_v6_8), constantI S_ 32 0#32, constantI S_ 32 0#32, constantI S_ 32 0#32] :
      Fin 4 → (⟨S_, .i32⟩ : BufTy).Contents (Elt Ideal)) a (Shape.Idx.first h_S_)).toInt) (write_start hc)

/-- The rows it leaves, by their coordinates. -/
theorem row_write (hc : Counts V0 t) (s : Fin 12) (b : Fin 16) (n : Fin 1024) (o : Fin 64) :
    (step_main_v6_11 V0 : FVec Ideal S12x16x1024x64 .f32) (ix4 s b n o)
      = if s = t then res_main_while0b_v280 V0 (ix3 b n o) else outRows V0 (ix4 s b n o) := by
  rw [step_rows hc, update_row]
  generalize res_main_while0b_v280 V0 = y
  pointwise

/-- One trip carries the facts on. -/
theorem Carries.step (h : Carries a V0 t.val) : Carries a (STEP V0) (t.val + 1) where
  X := by rw [STEP_main_v6_0]; exact h.X
  wx := by rw [STEP_main_v6_1]; exact h.wx
  bx := by rw [STEP_main_v6_2]; exact h.bx
  wh := by rw [STEP_main_v6_3]; exact h.wh
  bh := by rw [STEP_main_v6_4]; exact h.bh
  wc := by rw [STEP_main_v6_5]; exact h.wc
  bg := by rw [STEP_main_v6_6]; exact h.bg
  L := by unfold lap; rw [STEP_main_v6_7]; exact h.L
  ctr := by
    rw [STEP_main_v6_8]
    unfold step_main_v6_8
    rw [id_eq, h.ctr]
    funext z
    exact (BitVec.ofNat_add _ _).symm
  h := by
    funext b n o
    unfold stateOf hid
    rw [STEP_main_v6_9]
    exact h.newH b n o
  c := by
    funext b n o
    unfold stateOf cel
    rw [STEP_main_v6_10]
    exact h.newC b n o
  rows := by
    intro s hs b n o
    unfold outRows
    rw [STEP_main_v6_11]
    refine (row_write h.ctr s b n o).trans ?_
    by_cases e : s = t
    · subst e
      rw [if_pos rfl]
      exact h.newH b n o
    · rw [if_neg e]
      have hne : s.val ≠ t.val := fun q => e (Fin.ext q)
      exact h.rows s (by omega) b n o

/-- All the trips up to the twelfth. -/
theorem Carries.iterate (h : Carries a V0 0) (k : ℕ) (hk : k ≤ 12) : Carries a (STEP^[k] V0) k := by
  induction k with
  | zero => exact h
  | succ k ih =>
    rw [Function.iterate_succ_apply']
    exact Carries.step (t := ⟨k, hk⟩) (ih (Nat.le_of_succ_le hk))

end Cert.Plain
-- ==== Proof.RefRun.lean ====
module

public import proofs.«01_k».proof.Proof.RefLoop
public import Idealize.ShloMosaic.Lib.StableHlo.ReadAt

/-! # What the reference returns

Its loop starts from the arguments, so its result is the hidden states of the recurrence, one a step. -/

@[expose] public section

set_option maxRecDepth 16384

noncomputable section

namespace Cert.Plain

open Idealize Idealize.ShloMosaic Idealize.ShloMosaic.TcCoe Idealize.ShloMosaic.StableHlo Cert.ReferenceIdeal Cert.ReferenceIdeal.Gen Cert.ReferenceIdeal.Value

variable (m : (ℓ : Loc nD τ sig) → Buf (Elt Ideal) ℓ) (c : Dev nD)

/-- The argument arrays of the reference, by their coordinates. -/
def argsOf : Spec.Args where
  X b t n i := m ((c.tc : Thread nD τ).loc main_arg0) (ix4 b t n i)
  L n k := m ((c.tc : Thread nD τ).loc main_arg1) (ix2 n k)
  h0 b n o := m ((c.tc : Thread nD τ).loc main_arg2) (ix4 0 b n o)
  c0 b n o := m ((c.tc : Thread nD τ).loc main_arg3) (ix4 0 b n o)
  wx t g k i o := m ((c.tc : Thread nD τ).loc main_arg4) (ix5 t g k i o)
  bx t g o := m ((c.tc : Thread nD τ).loc main_arg5) (ix3 t g o)
  wh t g k i o := m ((c.tc : Thread nD τ).loc main_arg6) (ix5 t g k i o)
  bh t g o := m ((c.tc : Thread nD τ).loc main_arg7) (ix3 t g o)
  wc t k o := m ((c.tc : Thread nD τ).loc main_arg8) (ix4 t k 0 o)
  bg t g o := m ((c.tc : Thread nD τ).loc main_arg9) (ix4 t g 0 o)

/-- The loop starts from the arguments. -/
theorem entry : Carries (argsOf m c) (entryContents preI m c) 0 where
  X := by
    intro t b n i
    simp only [entryContents, afterL_cons, afterL_nil]
    after_reads_at
    rw [id_eq]
    pointwise
    rfl
  wx := by
    intro t g j i o
    simp only [entryContents, afterL_cons, afterL_nil]
    after_reads_at
    rfl
  bx := by
    intro t g o
    simp only [entryContents, afterL_cons, afterL_nil]
    after_reads_at
    rfl
  wh := by
    intro t g j i o
    simp only [entryContents, afterL_cons, afterL_nil]
    after_reads_at
    rfl
  bh := by
    intro t g o
    simp only [entryContents, afterL_cons, afterL_nil]
    after_reads_at
    rfl
  wc := by
    intro t j o
    simp only [entryContents, afterL_cons, afterL_nil]
    after_reads_at
    rfl
  bg := by
    intro t g o
    simp only [entryContents, afterL_cons, afterL_nil]
    after_reads_at
    rfl
  L := by
    intro n j
    unfold lap
    simp only [entryContents, afterL_cons, afterL_nil]
    after_reads_at
    rfl
  ctr := ctr_entry m c
  h := by
    funext b n o
    unfold stateOf hid
    simp only [entryContents, afterL_cons, afterL_nil]
    after_reads_at
    pointwise
    rfl
  c := by
    funext b n o
    unfold stateOf cel
    simp only [entryContents, afterL_cons, afterL_nil]
    after_reads_at
    pointwise
    rfl
  rows := fun s hs => absurd hs (Nat.not_lt_zero _)

/-- The result over the arguments: step by step, the hidden state. -/
def result (a : Spec.Args) : FVec Ideal S16x12x1024x64 .f32 :=
  fun y => (a.states ((y 1).val + 1)).1 (y 0) (y 2) (y 3)

/-- After twelve trips the returned array is that result. -/
theorem out_eq : out_main_v7 (STEP^[12] (entryContents preI m c)) = result (argsOf m c) := by
  have h := (entry m c).iterate 12 (Nat.le_refl _)
  generalize STEP^[12] (entryContents preI m c) = V at h
  funext y
  idx_vars y
  refine Eq.trans ?_ (h.rows y1 y1.isLt y0 y2 y3)
  unfold out_main_v7
  pointwise

/-- The reference ends with that result and its arguments as they were. -/
theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = result (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run m ρ)
  have hc := h c
  rw [out_eq] at hc
  exact hc

/-- The program has no semaphore, so every counter reads zero. -/
theorem counters_zero (s : MemSt nD τ sig (Elt Ideal)) : s.sem = fun _ => 0 := by
  funext g
  rcases g with ⟨_, x | x⟩
  · exact (Fin.elim0 x : _)
  · exact (Fin.elim0 x : _)

end Cert.Plain
-- ==== Proof.lean ====
/- The proof of the five claims: the three programs run and leave their arguments as they were, the kernel
   read over the extended reals is the kernel's own text, and kernel and reference return the same array. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Output
public import proofs.«01_k».proof.Proof.RefRun
public import Idealize.ShloMosaic.Lib.Claim
public import Idealize.ShloMosaic.Adequacy
public import Idealize.ShloMosaic.Init

@[expose] public section

noncomputable section

namespace Cert.Proof

open Idealize.ShloMosaic Idealize.SL.Sem

/-- The kernel runs and its arguments end as they were. -/
theorem kernel_frame : Cert.quiescent_Kernel (hKernel := Cert.Kernel.Gen.facts) :=
  fun m g _ => Cert.Kernel.Gen.frame m g

/-- So does the kernel over the extended reals. -/
theorem ideal_frame : Cert.quiescent_KernelIdeal (hKernelIdeal := Cert.KernelIdeal.Gen.facts) :=
  fun m g _ => Cert.KernelIdeal.Gen.frame m g

/-- So does the reference. -/
theorem reference_frame : Cert.quiescent_ReferenceIdeal (hReferenceIdeal := Cert.ReferenceIdeal.Gen.facts) :=
  fun m g _ => (θ_run Cert.ReferenceIdeal.defs _ _).mono (fun r h => ⟨fun c => (h c).2, Cert.Plain.counters_zero r.2⟩)
    (Cert.Plain.run_result m g)

/-- Where the argument arrays agree, so do the arguments by their coordinates. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    Cert.Plain.argsOf m' c = Cert.Blocks.argsOf m c := by
  unfold Cert.Plain.argsOf Cert.Blocks.argsOf
  rw [h0, h1, h2, h3, h4, h5, h6, h7, h8, h9]

/-- Kernel and reference return the same array over the extended reals. -/
theorem same_result : Cert.algebraic_KernelIdeal_ReferenceIdeal (hKernelIdeal := Cert.KernelIdeal.Gen.facts)
    (hReferenceIdeal := Cert.ReferenceIdeal.Gen.facts) := by
  intro m g m' g' _ hag
  refine ⟨fun c => Cert.Blocks.result (Cert.Blocks.argsOf m c), ?_, ?_⟩
  · exact (θ_run Cert.KernelIdeal.defs _ _).mono (fun r h c => ⟨h.1 c, h.2 c⟩)
      (θ_run_and (Cert.Blocks.run_result m g) (Cert.KernelIdeal.Gen.unchanged m g))
  · refine (θ_run Cert.ReferenceIdeal.defs _ _).mono (fun r h c => ⟨(h c).1.trans ?_, (h c).2⟩) (Cert.Plain.run_result m' g')
    obtain ⟨h0, h1, h2, h3, h4, h5, h6, h7, h8, h9⟩ := hag c
    rw [args_agree m m' c h0 h1 h2 h3 h4 h5 h6 h7 h8 h9]
    rfl

theorem claim : Cert.Claim := ⟨Cert.Kernel.Gen.facts, Cert.KernelIdeal.Gen.facts, Cert.ReferenceIdeal.Gen.facts,
  kernel_frame, ideal_frame, reference_frame, trivial, same_result⟩

end Cert.Proof

end
